-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v1_2) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x4096 : Shape := ⟨3, ![16, 1, 4096]⟩
abbrev S16x1x4x128 : Shape := ⟨4, ![16, 1, 4, 128]⟩
abbrev S16x8192x4x128 : Shape := ⟨4, ![16, 8192, 4, 128]⟩
abbrev S4 : Shape := ⟨1, ![4]⟩
abbrev S16x32x128 : Shape := ⟨3, ![16, 32, 128]⟩
abbrev S64x128 : Shape := ⟨2, ![64, 128]⟩
abbrev S16x32768x128 : Shape := ⟨3, ![16, 32768, 128]⟩
abbrev S1x32x128 : Shape := ⟨3, ![1, 32, 128]⟩
abbrev S1x32768x128 : Shape := ⟨3, ![1, 32768, 128]⟩
abbrev S8x32768 : Shape := ⟨2, ![8, 32768]⟩
abbrev S128x128 : Shape := ⟨2, ![128, 128]⟩
abbrev S16x128 : Shape := ⟨2, ![16, 128]⟩
abbrev S1 : Shape := ⟨1, ![1]⟩
abbrev S4x16x128 : Shape := ⟨3, ![4, 16, 128]⟩
abbrev S1x16x128 : Shape := ⟨3, ![1, 16, 128]⟩
abbrev S32x128 : Shape := ⟨2, ![32, 128]⟩
abbrev S32x256 : Shape := ⟨2, ![32, 256]⟩
abbrev S64x256 : Shape := ⟨2, ![64, 256]⟩
abbrev S8x128 : Shape := ⟨2, ![8, 128]⟩
abbrev S1x2048x128 : Shape := ⟨3, ![1, 2048, 128]⟩
abbrev S2048x128 : Shape := ⟨2, ![2048, 128]⟩
abbrev S128x16x128 : Shape := ⟨3, ![128, 16, 128]⟩
abbrev S1024x128 : Shape := ⟨2, ![1024, 128]⟩
abbrev S1024x256 : Shape := ⟨2, ![1024, 256]⟩
abbrev S64x1024 : Shape := ⟨2, ![64, 1024]⟩
abbrev S32x1024 : Shape := ⟨2, ![32, 1024]⟩
abbrev S8x1024 : Shape := ⟨2, ![8, 1024]⟩
abbrev S8x2048 : Shape := ⟨2, ![8, 2048]⟩
abbrev S8 : Shape := ⟨1, ![8]⟩
abbrev S8x1 : Shape := ⟨2, ![8, 1]⟩
abbrev S32x1 : Shape := ⟨2, ![32, 1]⟩

abbrev nBuf : Space → Nat
  | .hbm => 18
  | .vmem => 15
  | .smem => 2
  | _ => 0

abbrev bufTy : (tb : Table) → Fin (tcTables nBuf tb) → BufTy
  | .hbm, ⟨0, _⟩ => ⟨S16x1x4096, .f32⟩
  | .hbm, ⟨1, _⟩ => ⟨S16x1x4x128, .f32⟩
  | .hbm, ⟨2, _⟩ => ⟨S16x1x4x128, .f32⟩
  | .hbm, ⟨3, _⟩ => ⟨S16x8192x4x128, .fp8e4m3⟩
  | .hbm, ⟨4, _⟩ => ⟨S4, .f32⟩
  | .hbm, ⟨5, _⟩ => ⟨S16x8192x4x128, .fp8e4m3⟩
  | .hbm, ⟨6, _⟩ => ⟨S4, .f32⟩
  | .hbm, ⟨7, _⟩ => ⟨S16x32x128, .f32⟩
  | .hbm, ⟨8, _⟩ => ⟨S64x128, .f32⟩
  | .hbm, ⟨9, _⟩ => ⟨S64x128, .f32⟩
  | .hbm, ⟨10, _⟩ => ⟨S16x32768x128, .fp8e4m3⟩
  | .hbm, ⟨11, _⟩ => ⟨S16x32768x128, .fp8e4m3⟩
  | .hbm, ⟨12, _⟩ => ⟨S16x32x128, .f32⟩
  | .hbm, ⟨13, _⟩ => ⟨S64x128, .fp8e4m3⟩
  | .hbm, ⟨14, _⟩ => ⟨S64x128, .fp8e4m3⟩
  | .hbm, ⟨15, _⟩ => ⟨S16x1x4096, .f32⟩
  | .hbm, ⟨16, _⟩ => ⟨S16x1x4x128, .fp8e4m3⟩
  | .hbm, ⟨17, _⟩ => ⟨S16x1x4x128, .fp8e4m3⟩
  | .local _ .vmem, ⟨0, _⟩ => ⟨S1x32x128, .f32⟩
  | .local _ .vmem, ⟨1, _⟩ => ⟨S1x32x128, .f32⟩
  | .local _ .vmem, ⟨2, _⟩ => ⟨S64x128, .f32⟩
  | .local _ .vmem, ⟨3, _⟩ => ⟨S64x128, .f32⟩
  | .local _ .vmem, ⟨4, _⟩ => ⟨S1x32768x128, .fp8e4m3⟩
  | .local _ .vmem, ⟨5, _⟩ => ⟨S1x32768x128, .fp8e4m3⟩
  | .local _ .vmem, ⟨6, _⟩ => ⟨S1x32768x128, .fp8e4m3⟩
  | .local _ .vmem, ⟨7, _⟩ => ⟨S1x32768x128, .fp8e4m3⟩
  | .local _ .vmem, ⟨8, _⟩ => ⟨S1x32x128, .f32⟩
  | .local _ .vmem, ⟨9, _⟩ => ⟨S1x32x128, .f32⟩
  | .local _ .vmem, ⟨10, _⟩ => ⟨S64x128, .fp8e4m3⟩
  | .local _ .vmem, ⟨11, _⟩ => ⟨S64x128, .fp8e4m3⟩
  | .local _ .vmem, ⟨12, _⟩ => ⟨S8x32768, .f32⟩
  | .local _ .vmem, ⟨13, _⟩ => ⟨S128x128, .bf16⟩
  | .local _ .vmem, ⟨14, _⟩ => ⟨S128x128, .bf16⟩
  | .local _ .smem, ⟨0, _⟩ => ⟨S4, .f32⟩
  | .local _ .smem, ⟨1, _⟩ => ⟨S4, .f32⟩
  | _, _ => ⟨S16x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_43 : BitVec 32 := 0#32
  let c16_i32 : BitVec 32 := 16#32
  let v143 : BitVec 32 := Scalar.addi c0_i32_43 c16_i32
  let c1_i32_44 : BitVec 32 := 1#32
  ⟨c0_i32_43, v143, c1_i32_44⟩
def k0_mult1 (k0_t1 : Fin k0_t1_loop.trips) : BitVec 32 :=
  let c0_i32_43 : BitVec 32 := 0#32
  let c1_i32_44 : BitVec 32 := 1#32
  let arg14 : BitVec 32 := Scf.iv c0_i32_43 c1_i32_44 k0_t1
  let c2_i32_116 : BitVec 32 := 2#32
  let v312 : BitVec 32 := Scalar.muli arg14 c2_i32_116
  let c1024_i32 : BitVec 32 := 1024#32
  let v313 : BitVec 32 := Scalar.muli v312 c1024_i32
  v313
def k0_off1 (k0_t1 : Fin k0_t1_loop.trips) : Fin 3 → Nat :=
  let c0_117 : Index := 0#32
  let c0_i32_43 : BitVec 32 := 0#32
  let c1_i32_44 : BitVec 32 := 1#32
  let arg14 : BitVec 32 := Scf.iv c0_i32_43 c1_i32_44 k0_t1
  let c2_i32_116 : BitVec 32 := 2#32
  let v312 : BitVec 32 := Scalar.muli arg14 c2_i32_116
  let c1024_i32 : BitVec 32 := 1024#32
  let v313 : BitVec 32 := Scalar.muli v312 c1024_i32
  let v314 : BitVec 32 := v313
  let v315 : Index := Scalar.indexCast v314
  let c0_118 : Index := 0#32
  ![0, v315.toNat, 0]
def k0_off2 (k0_t1 : Fin k0_t1_loop.trips) : Fin 2 → Nat :=
  let c0_139 : Index := 0#32
  let c0_i32_43 : BitVec 32 := 0#32
  let c1_i32_44 : BitVec 32 := 1#32
  let arg14 : BitVec 32 := Scf.iv c0_i32_43 c1_i32_44 k0_t1
  let c2_i32_116 : BitVec 32 := 2#32
  let v312 : BitVec 32 := Scalar.muli arg14 c2_i32_116
  let c1024_i32 : BitVec 32 := 1024#32
  let v313 : BitVec 32 := Scalar.muli v312 c1024_i32
  let v314 : BitVec 32 := v313
  let v393 : Index := Scalar.indexCast v314
  ![0, v393.toNat]
@[reducible] def k0_t2_loop : Scf.Loop 32 :=
  let c0_i32_91 : BitVec 32 := 0#32
  let c16_i32_92 : BitVec 32 := 16#32
  let v259 : BitVec 32 := Scalar.addi c0_i32_91 c16_i32_92
  let c1_i32_93 : BitVec 32 := 1#32
  ⟨c0_i32_91, v259, c1_i32_93⟩
def k0_mult2 (k0_t2 : Fin k0_t2_loop.trips) : BitVec 32 :=
  let c0_i32_91 : BitVec 32 := 0#32
  let c1_i32_93 : BitVec 32 := 1#32
  let arg14 : BitVec 32 := Scf.iv c0_i32_91 c1_i32_93 k0_t2
  let c2_i32_116 : BitVec 32 := 2#32
  let v312 : BitVec 32 := Scalar.muli arg14 c2_i32_116
  let c1024_i32 : BitVec 32 := 1024#32
  let v313 : BitVec 32 := Scalar.muli v312 c1024_i32
  v313
def k0_off3 (k0_t2 : Fin k0_t2_loop.trips) : Fin 3 → Nat :=
  let c0_117 : Index := 0#32
  let c0_i32_91 : BitVec 32 := 0#32
  let c1_i32_93 : BitVec 32 := 1#32
  let arg14 : BitVec 32 := Scf.iv c0_i32_91 c1_i32_93 k0_t2
  let c2_i32_116 : BitVec 32 := 2#32
  let v312 : BitVec 32 := Scalar.muli arg14 c2_i32_116
  let c1024_i32 : BitVec 32 := 1024#32
  let v313 : BitVec 32 := Scalar.muli v312 c1024_i32
  let v314 : BitVec 32 := v313
  let v315 : Index := Scalar.indexCast v314
  let c0_118 : Index := 0#32
  ![0, v315.toNat, 0]
def k0_off4 (k0_t2 : Fin k0_t2_loop.trips) : Fin 2 → Nat :=
  let c0_119 : Index := 0#32
  let c0_i32_91 : BitVec 32 := 0#32
  let c1_i32_93 : BitVec 32 := 1#32
  let arg14 : BitVec 32 := Scf.iv c0_i32_91 c1_i32_93 k0_t2
  let c2_i32_116 : BitVec 32 := 2#32
  let v312 : BitVec 32 := Scalar.muli arg14 c2_i32_116
  let c1024_i32 : BitVec 32 := 1024#32
  let v313 : BitVec 32 := Scalar.muli v312 c1024_i32
  let v314 : BitVec 32 := v313
  let v327 : Index := Scalar.indexCast v314
  ![0, v327.toNat]
def k0_cond1 (i : grid0.Coords) : BitVec 1 :=
  let arg0 : BitVec 32 := BitVec.ofNat 32 (i 0).val
  let c0_i32_17 : BitVec 32 := 0#32
  let v70 : BitVec 1 := Scalar.cmpi .eq arg0 c0_i32_17
  let v71 : BitVec 32 := Scalar.extui v70
  let c0_i32_18 : BitVec 32 := 0#32
  let v72 : BitVec 1 := Scalar.cmpi .ne v71 c0_i32_18
  v72

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x32768x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32768x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S64x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16x1x4096 : Shape := ⟨3, ![16, 1, 4096]⟩
abbrev S16x1x4x128 : Shape := ⟨4, ![16, 1, 4, 128]⟩
abbrev S16x8192x4x128 : Shape := ⟨4, ![16, 8192, 4, 128]⟩
abbrev S4 : Shape := ⟨1, ![4]⟩
abbrev S16x4x8x128 : Shape := ⟨4, ![16, 4, 8, 128]⟩
abbrev S1 : Shape := ⟨1, ![1]⟩
abbrev S1x1x1x1 : Shape := ⟨4, ![1, 1, 1, 1]⟩
abbrev S1x1x4x1 : Shape := ⟨4, ![1, 1, 4, 1]⟩
abbrev S16x4x8x8192 : Shape := ⟨4, ![16, 4, 8, 8192]⟩
abbrev S16x4x8x1 : Shape := ⟨4, ![16, 4, 8, 1]⟩
abbrev S16x4x8 : Shape := ⟨3, ![16, 4, 8]⟩

abbrev nBuf : Space → Nat
  | .hbm => 12
  | .vmem => 8
  | .smem => 2
  | _ => 0

abbrev bufTy : (tb : Table) → Fin (tcTables nBuf tb) → BufTy
  | .hbm, ⟨0, _⟩ => ⟨S16x1x4096, .f32⟩
  | .hbm, ⟨1, _⟩ => ⟨S16x1x4x128, .f32⟩
  | .hbm, ⟨2, _⟩ => ⟨S16x1x4x128, .f32⟩
  | .hbm, ⟨3, _⟩ => ⟨S16x8192x4x128, .fp8e4m3⟩
  | .hbm, ⟨4, _⟩ => ⟨S4, .f32⟩
  | .hbm, ⟨5, _⟩ => ⟨S16x8192x4x128, .fp8e4m3⟩
  | .hbm, ⟨6, _⟩ => ⟨S4, .f32⟩
  | .hbm, ⟨7, _⟩ => ⟨S16x4x8x128, .f32⟩
  | .hbm, ⟨8, _⟩ => ⟨S16x4x8x128, .f32⟩
  | .hbm, ⟨9, _⟩ => ⟨S16x1x4x128, .fp8e4m3⟩
  | .hbm, ⟨10, _⟩ => ⟨S16x1x4x128, .fp8e4m3⟩
  | .hbm, ⟨11, _⟩ => ⟨S16x1x4096, .f32⟩
  | .local _ .vmem, ⟨0, _⟩ => ⟨S16x4x8x128, .f32⟩
  | .local _ .vmem, ⟨1, _⟩ => ⟨S16x1x4x128, .f32⟩
  | .local _ .vmem, ⟨2, _⟩ => ⟨S16x1x4x128, .f32⟩
  | .local _ .vmem, ⟨3, _⟩ => ⟨S16x8192x4x128, .fp8e4m3⟩
  | .local _ .vmem, ⟨4, _⟩ => ⟨S16x8192x4x128, .fp8e4m3⟩
  | .local _ .vmem, ⟨5, _⟩ => ⟨S16x4x8x128, .f32⟩
  | .local _ .vmem, ⟨6, _⟩ => ⟨S16x1x4x128, .fp8e4m3⟩
  | .local _ .vmem, ⟨7, _⟩ => ⟨S16x1x4x128, .fp8e4m3⟩
  | .local _ .smem, ⟨0, _⟩ => ⟨S4, .f32⟩
  | .local _ .smem, ⟨1, _⟩ => ⟨S4, .f32⟩
  | _, _ => ⟨S16x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2 : Ref sig .tc := ⟨.hbm, 11, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x4x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x8192x4x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x8192x4x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x4x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1x4x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x1x4x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kernel.Basics.lean ====
/- What the runs of the kernel's body are stated over: the condition of its one branch, each window's current
   staging buffer at a point, the scratch buffers, and the launch's invariant with the scratch buffers named. -/
module

public import proofs.«01_k».proof.Proof.Gen.Kernel.Skeleton
public import proofs.«01_k».proof.Proof.Gen.Kernel.Loops
public import proofs.«01_k».proof.Proof.Gen.Kernel.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- One staging buffer of output window 7, through which its contents are stated (`View.read_writes_of_cover`: the
    choice does not matter). -/
abbrev VO0_7 : View sig .tc .vmem S1x32x128 .f32 := (Memref.whole cc0_stg7_0 : Memref sig .tc .vmem S1x32x128 .f32).view
/-- One staging buffer of output window 8, through which its contents are stated (`View.read_writes_of_cover`: the
    choice does not matter). -/
abbrev VO0_8 : View sig .tc .vmem S64x128 .fp8e4m3 := (Memref.whole cc0_stg8_0 : Memref sig .tc .vmem S64x128 .fp8e4m3).view
/-- One staging buffer of output window 9, through which its contents are stated (`View.read_writes_of_cover`: the
    choice does not matter). -/
abbrev VO0_9 : View sig .tc .vmem S64x128 .fp8e4m3 := (Memref.whole cc0_stg9_0 : Memref sig .tc .vmem S64x128 .fp8e4m3).view
/-- Each window's current staging memref at point `t`, spelled as the pipeline passes it (`bodyAt0`), and its wholeness. -/
abbrev ms0_0 (t : Fin cfg0.N) : Memref sig .tc .smem S4 .f32 := win0_0.stage (cfg0.slots t 0)
/-- Window 0's staging buffer is whole. -/
abbrev hs0_0 (t : Fin cfg0.N) : (ms0_0 t).IsWhole := hstage0_0 ((cfg0.slots t 0).cast nbuf0_0)
/-- Window 1's staging buffer at a grid point. -/
abbrev ms0_1 (t : Fin cfg0.N) : Memref sig .tc .smem S4 .f32 := win0_1.stage (cfg0.slots t 1)
/-- Window 1's staging buffer is whole. -/
abbrev hs0_1 (t : Fin cfg0.N) : (ms0_1 t).IsWhole := hstage0_1 ((cfg0.slots t 1).cast nbuf0_1)
/-- Window 2's staging buffer at a grid point. -/
abbrev ms0_2 (t : Fin cfg0.N) : Memref sig .tc .vmem S1x32x128 .f32 := win0_2.stage (cfg0.slots t 2)
/-- Window 2's staging buffer is whole. -/
abbrev hs0_2 (t : Fin cfg0.N) : (ms0_2 t).IsWhole := hstage0_2 ((cfg0.slots t 2).cast nbuf0_2)
/-- Window 3's staging buffer at a grid point. -/
abbrev ms0_3 (t : Fin cfg0.N) : Memref sig .tc .vmem S64x128 .f32 := win0_3.stage (cfg0.slots t 3)
/-- Window 3's staging buffer is whole. -/
abbrev hs0_3 (t : Fin cfg0.N) : (ms0_3 t).IsWhole := hstage0_3 ((cfg0.slots t 3).cast nbuf0_3)
/-- Window 4's staging buffer at a grid point. -/
abbrev ms0_4 (t : Fin cfg0.N) : Memref sig .tc .vmem S64x128 .f32 := win0_4.stage (cfg0.slots t 4)
/-- Window 4's staging buffer is whole. -/
abbrev hs0_4 (t : Fin cfg0.N) : (ms0_4 t).IsWhole := hstage0_4 ((cfg0.slots t 4).cast nbuf0_4)
/-- Window 5's staging buffer at a grid point. -/
abbrev ms0_5 (t : Fin cfg0.N) : Memref sig .tc .vmem S1x32768x128 .fp8e4m3 := win0_5.stage (cfg0.slots t 5)
/-- Window 5's staging buffer is whole. -/
abbrev hs0_5 (t : Fin cfg0.N) : (ms0_5 t).IsWhole := hstage0_5 ((cfg0.slots t 5).cast nbuf0_5)
/-- Window 6's staging buffer at a grid point. -/
abbrev ms0_6 (t : Fin cfg0.N) : Memref sig .tc .vmem S1x32768x128 .fp8e4m3 := win0_6.stage (cfg0.slots t 6)
/-- Window 6's staging buffer is whole. -/
abbrev hs0_6 (t : Fin cfg0.N) : (ms0_6 t).IsWhole := hstage0_6 ((cfg0.slots t 6).cast nbuf0_6)
/-- Window 7's staging buffer at a grid point. -/
abbrev ms0_7 (t : Fin cfg0.N) : Memref sig .tc .vmem S1x32x128 .f32 := win0_7.stage (cfg0.slots t 7)
/-- Window 7's staging buffer is whole. -/
abbrev hs0_7 (t : Fin cfg0.N) : (ms0_7 t).IsWhole := hstage0_7 ((cfg0.slots t 7).cast nbuf0_7)
/-- Window 8's staging buffer at a grid point. -/
abbrev ms0_8 (t : Fin cfg0.N) : Memref sig .tc .vmem S64x128 .fp8e4m3 := win0_8.stage (cfg0.slots t 8)
/-- Window 8's staging buffer is whole. -/
abbrev hs0_8 (t : Fin cfg0.N) : (ms0_8 t).IsWhole := hstage0_8 ((cfg0.slots t 8).cast nbuf0_8)
/-- Window 9's staging buffer at a grid point. -/
abbrev ms0_9 (t : Fin cfg0.N) : Memref sig .tc .vmem S64x128 .fp8e4m3 := win0_9.stage (cfg0.slots t 9)
/-- Window 9's staging buffer is whole. -/
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S8x32768 .f32 := Memref.whole cc0_scratch0
/-- The scratch buffer of the new keys. -/
abbrev scM0_1 : Memref sig .tc .vmem S128x128 .bf16 := Memref.whole cc0_scratch1
/-- The scratch buffer of the new values. -/
abbrev scM0_2 : Memref sig .tc .vmem S128x128 .bf16 := Memref.whole cc0_scratch2
/-- The scratch `arg12` the kernel carries between points, as a view: what it holds is stated through it. -/
abbrev VS0_1 : View sig .tc .vmem S128x128 .bf16 := scM0_1.view
/-- The scratch `arg13` the kernel carries between points, as a view: what it holds is stated through it. -/
abbrev VS0_2 : View sig .tc .vmem S128x128 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Run

end
-- ==== Proof.Kernel.Closed.lean ====
/- The values the kernel's body computes, as functions of its inputs alone: the codes and dequantised new tokens of the
   first point, the two loops over the cache, and the attention output. -/
module

public import proofs.«01_k».proof.Proof.Kernel.Basics
public import Idealize.ShloMosaic.Lib.ValueIdx

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Word `j` of a four-word scale table. -/
def word (x : Vec F S4 .f32) (j : Fin 4) : F .f32 := x (ValueIdx.ix1 j)

/-- The `k`-th block of 2048 tokens of the key cache, as the first loop reads it. -/
def chunkK (x : Vec F S1x32768x128 .fp8e4m3) (k : Fin k0_t1_loop.trips) : Vec F S1x2048x128 .fp8e4m3 :=
  View.ld (S := S1x32768x128) x (Rect.unit (k0_off1 k) S1x2048x128.size (k0_off1_inb k))

/-- The `k`-th block of 2048 tokens of the value cache, as the second loop reads it. -/
def chunkV (x : Vec F S1x32768x128 .fp8e4m3) (k : Fin k0_t2_loop.trips) : Vec F S1x2048x128 .fp8e4m3 :=
  View.ld (S := S1x32768x128) x (Rect.unit (k0_off3 k) S1x2048x128.size (k0_off3_inb k))

/-- The scores one block of keys yields, as the first loop stores them. -/
def scoreBlk (v34 : FVec F S16x128 .bf16) (v79 : FVec F S64x256 .bf16) (ch : Vec F S1x2048x128 .fp8e4m3) : FVec F S8x2048 .f32 :=
  k0_pay14 (k0_pay8 v34 v79 ch) (k0_pay9 v34 v79 ch) (k0_pay11 v34 v79 ch) k0_pay12

/-- One trip of the first loop on its carried value: the running maximum per lane. -/
def maxStep (v34 : FVec F S16x128 .bf16) (v79 : FVec F S64x256 .bf16) (ch : Vec F S1x2048x128 .fp8e4m3) (acc : FVec F S8x128 .f32) : FVec F S8x128 .f32 :=
  k0_pay39 (k0_pay13 (k0_pay8 v34 v79 ch) (k0_pay9 v34 v79 ch) (k0_pay11 v34 v79 ch) k0_pay12)
    (k0_pay15 acc (k0_pay8 v34 v79 ch) (k0_pay9 v34 v79 ch) (k0_pay11 v34 v79 ch) k0_pay12)

/-- One trip of the second loop on its carried pair: the running sum of weights per lane and the weighted values. -/
def sumStep (v69 : FVec F S16x128 .bf16) (mx : FVec F S8x128 .f32) (ch : Vec F S1x2048x128 .fp8e4m3) (s : FVec F S8x2048 .f32)
    (acc : FVec F S8x128 .f32 × FVec F S64x256 .f32) : FVec F S8x128 .f32 × FVec F S64x256 .f32 :=
  (k0_pay18 mx acc.1 s,
   k0_pay50 acc.2 (k0_pay16 v69 ch) (k0_pay20 (k0_pay19 mx s) (iota .tc S8x1024 32 [1] iota_S8x1024_d1_w32))
     (k0_pay21 (k0_pay17 mx s)) 4#32 k0_pay22 k0_pay23)

/-- The first loop's carried value before trip `n`. -/
def maxAt (v34 : FVec F S16x128 .bf16) (v79 : FVec F S64x256 .bf16) (x : Vec F S1x32768x128 .fp8e4m3) (init : FVec F S8x128 .f32) : ℕ → FVec F S8x128 .f32
  | 0 => init
  | n + 1 => if h : n < k0_t1_loop.trips then maxStep v34 v79 (chunkK x ⟨n, h⟩) (maxAt v34 v79 x init n) else maxAt v34 v79 x init n

/-- The second loop's carried pair before trip `n`, the `k`-th block of scores being `s k`. -/
def sumAt (v69 : FVec F S16x128 .bf16) (mx : FVec F S8x128 .f32) (x : Vec F S1x32768x128 .fp8e4m3) (s : Fin k0_t2_loop.trips → FVec F S8x2048 .f32)
    (init : FVec F S8x128 .f32 × FVec F S64x256 .f32) : ℕ → FVec F S8x128 .f32 × FVec F S64x256 .f32
  | 0 => init
  | n + 1 => if h : n < k0_t2_loop.trips then sumStep v69 mx (chunkV x ⟨n, h⟩) (s ⟨n, h⟩) (sumAt v69 mx x s init n) else sumAt v69 mx x s init n

/-- The two loops make the same number of trips: a trip of the second as one of the first. -/
abbrev toTrip1 (k : Fin k0_t2_loop.trips) : Fin k0_t1_loop.trips := k

/-- The key scales spread over the rows of a block of keys. -/
def kScale (x0 : Vec F S4 .f32) : FVec F S16x128 .bf16 := k0_pay24 (word x0 0) (word x0 1) (word x0 2) (word x0 3)

/-- The value scales spread over the rows of a block of values. -/
def vScale (x1 : Vec F S4 .f32) : FVec F S16x128 .bf16 := k0_pay27 4#32 k0_pay25 k0_pay26 (word x1 0) (word x1 1) (word x1 2) (word x1 3)

/-- The codes of the new keys. -/
def kCode (x0 : Vec F S4 .f32) (x3 : Vec F S64x128 .f32) : Vec F S64x128 .fp8e4m3 := k0_pay2 x3 (word x0 0) (word x0 1) (word x0 2) (word x0 3)

/-- The codes of the new values. -/
def vCode (x1 : Vec F S4 .f32) (x4 : Vec F S64x128 .f32) : Vec F S64x128 .fp8e4m3 :=
  k0_pay28 (k0_pay5 x4) k0_pay6 (k0_pay7 (word x1 0) (word x1 1)) (word x1 2) (word x1 3)

/-- The dequantised new keys, the upper half zero. -/
def kNew (x0 : Vec F S4 .f32) (x3 : Vec F S64x128 .f32) : Vec F S128x128 .bf16 :=
  View.canon (Val := Elt F) (s := S128x128) (e := .bf16) [⟨Rect.unit (s := S128x128) ![64, 0] S64x128.size inb_S128x128_S64x128_64_0, k0_pay4⟩,
    ⟨Rect.unit (s := S128x128) ![0, 0] S64x128.size inb_S128x128_S64x128_0_0, k0_pay3 (kScale x0) (kCode x0 x3)⟩]

/-- The dequantised new values, the upper half zero. -/
def vNew (x1 : Vec F S4 .f32) (x4 : Vec F S64x128 .f32) : Vec F S128x128 .bf16 :=
  View.canon (Val := Elt F) (s := S128x128) (e := .bf16) [⟨Rect.unit (s := S128x128) ![64, 0] S64x128.size inb_S128x128_S64x128_64_0, k0_pay30⟩,
    ⟨Rect.unit (s := S128x128) ![0, 0] S64x128.size inb_S128x128_S64x128_0_0,
      k0_pay29 4#32 k0_pay25 k0_pay26 (word x1 0) (word x1 1) (word x1 2) (word x1 3) (k0_pay5 x4) k0_pay6 (k0_pay7 (word x1 0) (word x1 1)) (word x1 2) (word x1 3)⟩]

/-- The products of the queries with the new keys. -/
def newDot (x2 : Vec F S1x32x128 .f32) (kn : Vec F S128x128 .bf16) : FVec F S32x128 .f32 := k0_pay33 x2 kn

/-- The scores of the new tokens, one per head, spread over the lanes. -/
def newScore (i : grid0.Coords) (x2 : Vec F S1x32x128 .f32) (kn : Vec F S128x128 .bf16) : FVec F S8x128 .f32 :=
  k0_pay38 (newDot x2 kn) (k0_pay34 (BitVec.ofNat 32 (i 0).val) (iota .tc S8x128 32 [1] iota_S8x128_d1_w32)) k0_pay35 (k0_pay36 (newDot x2 kn)) k0_pay37

/-- What the first loop leaves: the maximum per lane. -/
def laneMax (i : grid0.Coords) (x0 : Vec F S4 .f32) (x2 : Vec F S1x32x128 .f32) (x5 : Vec F S1x32768x128 .fp8e4m3) (kn : Vec F S128x128 .bf16) : FVec F S8x128 .f32 :=
  maxAt (kScale x0) (k0_pay32 x2) x5 (newScore i x2 kn) k0_t1_loop.trips

/-- The maximum per head, spread over the lanes, from the maximum per lane. -/
def headMax (lm : FVec F S8x128 .f32) : FVec F S8x128 .f32 :=
  k0_pay46 (k0_pay43 lm k0_pay40 (k0_pay41 lm) k0_pay42 (FloatOps.ofBits .f32 0xFF800000#32)) k0_pay44
    (k0_pay45 lm k0_pay40 (k0_pay41 lm) k0_pay42 (FloatOps.ofBits .f32 0xFF800000#32))

/-- The weight of the new token, from its score and the maximum per lane. -/
def newWeight (sn lm : FVec F S8x128 .f32) : FVec F S8x128 .f32 :=
  k0_pay47 sn (k0_pay43 lm k0_pay40 (k0_pay41 lm) k0_pay42 (FloatOps.ofBits .f32 0xFF800000#32)) k0_pay44
    (k0_pay45 lm k0_pay40 (k0_pay41 lm) k0_pay42 (FloatOps.ofBits .f32 0xFF800000#32))

/-- The weight of the new token as the operand of its product with the new values. -/
def newWeight' (sn lm : FVec F S8x128 .f32) : FVec F S32x128 .bf16 :=
  k0_pay48 sn (k0_pay43 lm k0_pay40 (k0_pay41 lm) k0_pay42 (FloatOps.ofBits .f32 0xFF800000#32)) k0_pay44
    (k0_pay45 lm k0_pay40 (k0_pay41 lm) k0_pay42 (FloatOps.ofBits .f32 0xFF800000#32))

/-- What the second loop leaves: the sum of weights per lane and the weighted values. -/
def sums (i : grid0.Coords) (x0 x1 : Vec F S4 .f32) (x2 : Vec F S1x32x128 .f32) (x5 x6 : Vec F S1x32768x128 .fp8e4m3) (kn : Vec F S128x128 .bf16) : FVec F S8x128 .f32 × FVec F S64x256 .f32 :=
  sumAt (vScale x1) (headMax (laneMax i x0 x2 x5 kn)) x6 (fun k => scoreBlk (kScale x0) (k0_pay32 x2) (chunkK x5 (toTrip1 k)))
    (newWeight (newScore i x2 kn) (laneMax i x0 x2 x5 kn), k0_pay49) k0_t2_loop.trips

/-- The output from the new tokens' weight, the new values and what the second loop leaves. -/
def finish (nw : FVec F S32x128 .bf16) (vn : Vec F S128x128 .bf16) (a : FVec F S8x128 .f32 × FVec F S64x256 .f32) : Vec F S1x32x128 .f32 :=
  k0_pay1 a.1 (k0_pay51 nw vn (constant S32x128 .f32 0#32) a.2) k0_pay52 (k0_pay53 a.1) (k0_pay54 a.1) (k0_pay55 a.1)

/-- The attention output of one sequence. -/
def attn (i : grid0.Coords) (x0 x1 : Vec F S4 .f32) (x2 : Vec F S1x32x128 .f32) (x5 x6 : Vec F S1x32768x128 .fp8e4m3) (kn vn : Vec F S128x128 .bf16) : Vec F S1x32x128 .f32 :=
  finish (newWeight' (newScore i x2 kn) (laneMax i x0 x2 x5 kn)) vn (sums i x0 x1 x2 x5 x6 kn)

end Cert.Kernel.Run

end
-- ==== Proof.Kernel.Trip.lean ====
/- The two loops in closed form: what the generated recursions hold is what the plain recursions over the blocks hold. -/
module

public import proofs.«01_k».proof.Proof.Kernel.Closed
public import Idealize.ShloMosaic.Lib.WritesUnit

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip of the first loop carries `maxStep`. -/
theorem trip1_yield (𝒱 : Variants) (c : Dev nD) (bd : Option 𝒱.V) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (v34 : FVec F S16x128 .bf16) (v79 : FVec F S64x256 .bf16) (v81 : FVec F S32x128 .f32) (v108 : IVec S8x128 1) (v125 : IVec S8x128 32) (v126 : FVec F S8x128 .f32) (v128 : IVec S8x128 1) (X_arg6 : BufTy.Contents (Elt F) arg6.view.ty) (k : Fin k0_t1_loop.trips)  : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 k).1 = fun acc => maxStep v34 v79 (chunkK (arg6.view.read (Elt F) X_arg6) k) acc := by
  unfold trip_k0_t1; dsimp only
  sl_unfold_run_names
  funext acc
  rfl

/-- One trip of the first loop stores its block of scores. -/
theorem trip1_pieces (𝒱 : Variants) (c : Dev nD) (bd : Option 𝒱.V) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (v34 : FVec F S16x128 .bf16) (v79 : FVec F S64x256 .bf16) (v81 : FVec F S32x128 .f32) (v108 : IVec S8x128 1) (v125 : IVec S8x128 32) (v126 : FVec F S8x128 .f32) (v128 : IVec S8x128 1) (X_arg6 : BufTy.Contents (Elt F) arg6.view.ty) (k : Fin k0_t1_loop.trips)  : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 k).2.1 = fun acc => [⟨Rect.unit (k0_off2 k) S8x2048.size (k0_off2_inb k), scoreBlk v34 v79 (chunkK (arg6.view.read (Elt F) X_arg6) k)⟩] := by
  unfold trip_k0_t1; dsimp only
  sl_unfold_run_names
  funext acc
  rfl

/-- One trip of the second loop carries `sumStep`. -/
theorem trip2_yield (𝒱 : Variants) (c : Dev nD) (bd : Option 𝒱.V) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (v69 : FVec F S16x128 .bf16) (v218 : FVec F S8x128 .f32) (v220 : FVec F S8x128 .f32) (v255 : FVec F S32x128 .bf16) (v256 : Vec F S128x128 .bf16) (cst_89 : FVec F S32x128 .f32) (X_arg7 : BufTy.Contents (Elt F) arg7.view.ty) (X_arg11 : BufTy.Contents (Elt F) arg11.view.ty) (k : Fin k0_t2_loop.trips)  : (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v69 v218 v220 v255 v256 cst_89 X_arg7 X_arg11 k).1 = fun acc => sumStep v69 v218 (chunkV (arg7.view.read (Elt F) X_arg7) k) (View.readAt (Elt F) arg11.view (Rect.unit (s := S8x32768) (k0_off4 k) S8x2048.size (k0_off4_inb k)).toLoadRect X_arg11) acc := by
  unfold trip_k0_t2; dsimp only
  sl_unfold_run_names
  funext acc
  rfl

/-- The first loop's carried value is `maxAt`. -/
theorem st1_fst (𝒱 : Variants) (c : Dev nD) (bd : Option 𝒱.V) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (v34 : FVec F S16x128 .bf16) (v79 : FVec F S64x256 .bf16) (v81 : FVec F S32x128 .f32) (v108 : IVec S8x128 1) (v125 : IVec S8x128 32) (v126 : FVec F S8x128 .f32) (v128 : IVec S8x128 1) (X_arg6 : BufTy.Contents (Elt F) arg6.view.ty)  (init : FVec F S8x128 .f32) : ∀ n, (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init n).1 = maxAt v34 v79 (arg6.view.read (Elt F) X_arg6) init n
  | 0 => rfl
  | n + 1 => by
    have ih := st1_fst 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init n
    by_cases h : n < k0_t1_loop.trips
    · rw [maxAt, dif_pos h, ← ih]
      refine (congrArg Prod.fst (st_k0_t1_succ (k := ⟨n, h⟩) ..)).trans ?_
      exact congrFun (trip1_yield ..) _
    · rw [maxAt, dif_neg h, ← ih, st_k0_t1.eq_2]
      unfold st_k0_t1Step
      rw [dif_neg h]

/-- A block of scores just stored reads back. -/
theorem blk_mem {sp : Space} (v : View sig .tc sp S8x32768 .f32) (f : BufTy.Contents (Elt F) v.ty) (k : Fin k0_t1_loop.trips) (w : FVec F S8x2048 .f32)
    (L : List (View.Piece (Elt F) S8x32768 .f32)) (x : S8x2048.Idx) :
    v.read (Elt F) (v.writes (Elt F) f (⟨Rect.unit (k0_off2 k) S8x2048.size (k0_off2_inb k), w⟩ :: L)) ((Rect.unit (s := S8x32768) (k0_off2 k) S8x2048.size (k0_off2_inb k)).emb x) = w x :=
  View.read_writes_cons_unit_of_mem (s := S8x32768) (e := .f32) v f (off := k0_off2 k) (off' := k0_off2 k) (size := S8x2048.size) (k0_off2_inb k) w L _ x rfl (fun a => congrArg (k0_off2 k a + ·) (Nat.one_mul _))

/-- Storing a later block of scores leaves an earlier one. -/
theorem blk_not_mem {sp : Space} (v : View sig .tc sp S8x32768 .f32) (f : BufTy.Contents (Elt F) v.ty) (k k' : Fin k0_t1_loop.trips) (hk : k.val < k'.val) (w : FVec F S8x2048 .f32)
    (L : List (View.Piece (Elt F) S8x32768 .f32)) (x : S8x2048.Idx) :
    v.read (Elt F) (v.writes (Elt F) f (⟨Rect.unit (k0_off2 k') S8x2048.size (k0_off2_inb k'), w⟩ :: L)) ((Rect.unit (s := S8x32768) (k0_off2 k) S8x2048.size (k0_off2_inb k)).emb x)
      = v.read (Elt F) (v.writes (Elt F) f L) ((Rect.unit (s := S8x32768) (k0_off2 k) S8x2048.size (k0_off2_inb k)).emb x) :=
  View.read_writes_cons_unit_of_not_mem v f _ _ _ _ (k0_off2_eq k') 1 (Or.inl (by
    have h1 : (k0_off2 k) 1 = 2048 * k.val := congrFun (k0_off2_eq k) 1
    have h2 : (x 1).val < 2048 := (x 1).isLt
    show (k0_off2 k) 1 + 1 * (x 1).val < 2048 * k'.val
    omega))

/-- Before trip `n` of the first loop, the score scratch holds every earlier block of scores, whatever it held before. -/
theorem st1_read (𝒱 : Variants) (c : Dev nD) (bd : Option 𝒱.V) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (v34 : FVec F S16x128 .bf16) (v79 : FVec F S64x256 .bf16) (v81 : FVec F S32x128 .f32) (v108 : IVec S8x128 1) (v125 : IVec S8x128 32) (v126 : FVec F S8x128 .f32) (v128 : IVec S8x128 1) (X_arg6 : BufTy.Contents (Elt F) arg6.view.ty)  (init : FVec F S8x128 .f32) (f : BufTy.Contents (Elt F) arg11.view.ty) : ∀ n, n ≤ k0_t1_loop.trips → ∀ k : Fin k0_t1_loop.trips, k.val < n → ∀ x : S8x2048.Idx,
    arg11.view.read (Elt F) (arg11.view.writes (Elt F) f ((st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init n).2)) ((Rect.unit (s := S8x32768) (k0_off2 k) S8x2048.size (k0_off2_inb k)).emb x)
      = scoreBlk v34 v79 (chunkK (arg6.view.read (Elt F) X_arg6) k) x
  | 0, _, k, hk, _ => absurd hk (Nat.not_lt_zero _)
  | n + 1, hn, k, hk, x => by
    have ih := st1_read 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init f n (Nat.le_of_succ_le hn)
    have h : n < k0_t1_loop.trips := hn
    have e : (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init (n + 1)).2 = ⟨Rect.unit (k0_off2 ⟨n, h⟩) S8x2048.size (k0_off2_inb ⟨n, h⟩), scoreBlk v34 v79 (chunkK (arg6.view.read (Elt F) X_arg6) ⟨n, h⟩)⟩ :: (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init n).2 := by
      refine (congrArg Prod.snd (st_k0_t1_succ (k := ⟨n, h⟩) ..)).trans ?_
      exact congrArg (· ++ _) (congrFun (trip1_pieces ..) _)
    rw [e]
    generalize (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init n).2 = L at ih ⊢
    by_cases hkn : k.val = n
    · obtain rfl : k = ⟨n, h⟩ := Fin.ext hkn
      exact blk_mem _ _ _ _ _ x
    · have hlt : k.val < n := by omega
      exact (blk_not_mem _ _ k ⟨n, h⟩ hlt _ _ x).trans (ih k hlt x)

/-- The block of scores the second loop loads is the block the first loop stored. -/
theorem st1_load (𝒱 : Variants) (c : Dev nD) (bd : Option 𝒱.V) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (v34 : FVec F S16x128 .bf16) (v79 : FVec F S64x256 .bf16) (v81 : FVec F S32x128 .f32) (v108 : IVec S8x128 1) (v125 : IVec S8x128 32) (v126 : FVec F S8x128 .f32) (v128 : IVec S8x128 1) (X_arg6 : BufTy.Contents (Elt F) arg6.view.ty)  (init : FVec F S8x128 .f32) (f : BufTy.Contents (Elt F) arg11.view.ty) (k : Fin k0_t2_loop.trips) :
    View.readAt (Elt F) arg11.view (Rect.unit (s := S8x32768) (k0_off4 k) S8x2048.size (k0_off4_inb k)).toLoadRect (arg11.view.writes (Elt F) f ((st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init k0_t1_loop.trips).2))
      = scoreBlk v34 v79 (chunkK (arg6.view.read (Elt F) X_arg6) (toTrip1 k)) := by
  funext x
  exact st1_read 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init f _ le_rfl (toTrip1 k) k.isLt x

/-- The second loop's carried pair is `sumAt`, when its loads of the score scratch read the blocks `s`. -/
theorem st2_eq (𝒱 : Variants) (c : Dev nD) (bd : Option 𝒱.V) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (v69 : FVec F S16x128 .bf16) (v218 : FVec F S8x128 .f32) (v220 : FVec F S8x128 .f32) (v255 : FVec F S32x128 .bf16) (v256 : Vec F S128x128 .bf16) (cst_89 : FVec F S32x128 .f32) (X_arg7 : BufTy.Contents (Elt F) arg7.view.ty) (X_arg11 : BufTy.Contents (Elt F) arg11.view.ty)  (init : FVec F S8x128 .f32 × FVec F S64x256 .f32) (s : Fin k0_t2_loop.trips → FVec F S8x2048 .f32)
    (hs : ∀ k, View.readAt (Elt F) arg11.view (Rect.unit (s := S8x32768) (k0_off4 k) S8x2048.size (k0_off4_inb k)).toLoadRect X_arg11 = s k) : ∀ n, (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v69 v218 v220 v255 v256 cst_89 X_arg7 X_arg11 init n) = sumAt v69 v218 (arg7.view.read (Elt F) X_arg7) s init n
  | 0 => rfl
  | n + 1 => by
    have ih := st2_eq 𝒱 c bd i arg1 harg1 arg2 harg2 arg3 harg3 arg4 harg4 arg5 harg5 arg6 harg6 arg7 harg7 arg8 harg8 arg9 harg9 arg10 harg10 arg11 harg11 arg12 harg12 arg13 harg13 v69 v218 v220 v255 v256 cst_89 X_arg7 X_arg11 init s hs n
    by_cases h : n < k0_t2_loop.trips
    · rw [sumAt, dif_pos h, ← ih, ← hs]
      refine (st_k0_t2_succ (k := ⟨n, h⟩) ..).trans ?_
      exact congrFun (trip2_yield ..) _
    · rw [sumAt, dif_neg h, ← ih, st_k0_t2.eq_2]
      unfold st_k0_t2Step
      rw [dif_neg h]

end Cert.Kernel.Run

end
-- ==== Proof.Kernel.CaseA.lean ====
/- The run of the kernel's body at the first point of the grid. -/
module

public import proofs.«01_k».proof.Proof.Kernel.Basics

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at the first point (the branch is taken): on whole buffers, the inputs at their contents and the score
    scratch at `xs0`, it ends with the inputs as they were and with each output and each of the other two scratch buffers
    holding the pieces the run finds. -/
noncomputable def runA (c : Dev nD) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (hc0 : cond0_0 i)
    (x0 : Vec F S4 .f32) (x1 : Vec F S4 .f32) (x2 : Vec F S1x32x128 .f32) (x3 : Vec F S64x128 .f32) (x4 : Vec F S64x128 .f32) (x5 : Vec F S1x32768x128 .fp8e4m3) (x6 : Vec F S1x32768x128 .fp8e4m3) (xs0 : Vec F S8x32768 .f32) :
    Σ' (L7 : List (View.Piece (Elt F) S1x32x128 .f32)) (L8 : List (View.Piece (Elt F) S64x128 .fp8e4m3)) (L9 : List (View.Piece (Elt F) S64x128 .fp8e4m3)) (LS1 : List (View.Piece (Elt F) S128x128 .bf16)), { LS2 : List (View.Piece (Elt F) S128x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0_gqa_decode_fp8 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_gqa_decode_fp8_eq_skeleton]; unfold cc0_gqa_decode_fp8_skel
    simp only [k0_part7_eq_skeleton, k0_part8_eq_skeleton, k0_part9_eq_skeleton, k0_part10_eq_skeleton, k0_part1_eq_skeleton, k0_part2_eq_skeleton, k0_part11_eq_skeleton, k0_part12_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%d12, %f12, -, H12⟩, ⟨%d13, %f13, -, H13⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]
    · iexists _, _; isplitr; swap; · iexact H11
      ipureintro; rfl
    isplitl [H12]; · iexists _; iexact H12
    iexists _; iexact H13

end Cert.Kernel.Run

end
-- ==== Proof.Kernel.CaseB.lean ====
/- The run of the kernel's body at the later points of the grid. -/
module

public import proofs.«01_k».proof.Proof.Kernel.CaseA

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at every later point (the branch is not taken): on whole buffers, the inputs at their contents, the
    scratch buffers at `xs0`, `xs1`, `xs2` and the two code outputs at any `x8`, `x9`, it ends with everything but the
    attention output and the score scratch as it was, and the attention output holding the pieces the run finds. -/
noncomputable def runB (c : Dev nD) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (hc0 : ¬cond0_0 i)
    (x0 : Vec F S4 .f32) (x1 : Vec F S4 .f32) (x2 : Vec F S1x32x128 .f32) (x3 : Vec F S64x128 .f32) (x4 : Vec F S64x128 .f32) (x5 : Vec F S1x32768x128 .fp8e4m3) (x6 : Vec F S1x32768x128 .fp8e4m3) (xs0 : Vec F S8x32768 .f32) (xs1 : Vec F S128x128 .bf16) (xs2 : Vec F S128x128 .bf16) :
    { L7 : List (View.Piece (Elt F) S1x32x128 .f32) //
      ∀ (x8 : Vec F S64x128 .fp8e4m3) (x9 : Vec F S64x128 .fp8e4m3) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare x8 ∗ owns (c : Thread nD τ) arg10 fullShare x9 ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare x8 ∗ owns (c : Thread nD τ) arg10 fullShare x9 ∗ (∃ d, owns (c : Thread nD τ) arg11 fullShare d) ∗ owns (c : Thread nD τ) arg12 fullShare xs1 ∗ owns (c : Thread nD τ) arg13 fullShare xs2) -∗ K ⟨⟩))
          ⊢ wp frame (wpE (defs₀ (F := F)) Variants.none c none) E (cc0_gqa_decode_fp8 i arg1 harg1 arg2 harg2 arg3 harg3 arg4 harg4 arg5 harg5 arg6 harg6 arg7 harg7 arg8 harg8 arg9 harg9 arg10 harg10 arg11 harg11 arg12 harg12 arg13 harg13) K } := by
  refine ⟨?_, fun x8 x9 E K => ?run⟩
  case run =>
    simp only [cc0_gqa_decode_fp8_eq_skeleton]; unfold cc0_gqa_decode_fp8_skel
    simp only [k0_part7_eq_skeleton, k0_part8_eq_skeleton, k0_part9_eq_skeleton, k0_part10_eq_skeleton, k0_part11_eq_skeleton, k0_part12_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12; obtain rfl := harg13.eq_unread hf13
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexists _; isplitr; · ipureintro; exact harg12.read_unread _
      iexact H12
    iexists _; isplitr; · ipureintro; exact harg13.read_unread _
    iexact H13

end Cert.Kernel.Run

end
-- ==== Proof.Kernel.Found.lean ====
/- What the runs of the kernel's body found, in closed form. -/
module

public import proofs.«01_k».proof.Proof.Kernel.Trip
public import proofs.«01_k».proof.Proof.Kernel.CaseA
public import proofs.«01_k».proof.Proof.Kernel.CaseB
public import Idealize.ShloMosaic.Lib.Pipeline.Value

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! A word of a scale table, read through its one-word box, is that word of the table. -/

/-- The one-word load at offset 0 reads word 0 of the table. -/
theorem readAt_word0 (a : Memref sig .tc .smem S4 .f32) (ha : a.IsWhole) (x : Vec F S4 .f32) (h : 0 < (Rect.unit (s := S4) ![0] ![1] inb_S4_S1_0).shape.numel) :
    View.readAt (Elt F) a.view (Rect.unit (s := S4) ![0] ![1] inb_S4_S1_0).toLoadRect (ha.unread x) (Shape.Idx.first h) = word x 0 := by
  rw [View.readAt_eq_ld, ha.read_unread]
  exact congrArg x (funext fun d => match d with | ⟨0, _⟩ => rfl)

/-- The one-word load at offset 1 reads word 1 of the table. -/
theorem readAt_word1 (a : Memref sig .tc .smem S4 .f32) (ha : a.IsWhole) (x : Vec F S4 .f32) (h : 0 < (Rect.unit (s := S4) ![1] ![1] inb_S4_S1_1).shape.numel) :
    View.readAt (Elt F) a.view (Rect.unit (s := S4) ![1] ![1] inb_S4_S1_1).toLoadRect (ha.unread x) (Shape.Idx.first h) = word x 1 := by
  rw [View.readAt_eq_ld, ha.read_unread]
  exact congrArg x (funext fun d => match d with | ⟨0, _⟩ => rfl)

/-- The one-word load at offset 2 reads word 2 of the table. -/
theorem readAt_word2 (a : Memref sig .tc .smem S4 .f32) (ha : a.IsWhole) (x : Vec F S4 .f32) (h : 0 < (Rect.unit (s := S4) ![2] ![1] inb_S4_S1_2).shape.numel) :
    View.readAt (Elt F) a.view (Rect.unit (s := S4) ![2] ![1] inb_S4_S1_2).toLoadRect (ha.unread x) (Shape.Idx.first h) = word x 2 := by
  rw [View.readAt_eq_ld, ha.read_unread]
  exact congrArg x (funext fun d => match d with | ⟨0, _⟩ => rfl)

/-- The one-word load at offset 3 reads word 3 of the table. -/
theorem readAt_word3 (a : Memref sig .tc .smem S4 .f32) (ha : a.IsWhole) (x : Vec F S4 .f32) (h : 0 < (Rect.unit (s := S4) ![3] ![1] inb_S4_S1_3).shape.numel) :
    View.readAt (Elt F) a.view (Rect.unit (s := S4) ![3] ![1] inb_S4_S1_3).toLoadRect (ha.unread x) (Shape.Idx.first h) = word x 3 := by
  rw [View.readAt_eq_ld, ha.read_unread]
  exact congrArg x (funext fun d => match d with | ⟨0, _⟩ => rfl)

/-- A load of a whole buffer reads its contents. -/
theorem readAt_whole {sp : Space} {S : Shape} {e : EltTy} (a : Memref sig .tc sp S e) (ha : a.IsWhole) (x : Vec F S e) {off : Fin S.rank → ℕ} (h : off = fun _ => 0)
    (inb : ∀ d, off d + S.size d ≤ S.size d) : View.readAt (Elt F) a.view (Rect.unit off S.size inb).toLoadRect (ha.unread x) = x := by
  rw [View.readAt_eq_ld, ha.read_unread]
  exact View.ld_unit_zero h inb x

/-- A load of a whole buffer the run itself wrote reads what the pieces leave. -/
theorem readCov_whole {sp : Space} {S : Shape} {e : EltTy} (v : View sig .tc sp S e) (L : List (View.Piece (Elt F) S e)) {off : Fin S.rank → ℕ} (h : off = fun _ => 0)
    (inb : ∀ d, off d + S.size d ≤ S.size d) : v.readCov L (Rect.unit off S.size inb).toLoadRect = View.canon L := by
  rw [View.readCov_eq_canon']
  exact View.ld_unit_zero h inb (View.canon L)

/-- These offsets are all zero. -/
theorem off2_zero : (![0, 0] : Fin 2 → ℕ) = fun _ => 0 := by decide
/-- These offsets are all zero. -/
theorem off3_zero : (![0, 0, 0] : Fin 3 → ℕ) = fun _ => 0 := by decide

/-- The second loop after the first: its scores are the blocks the first loop stored. -/
theorem st2_after1 (𝒱 : Variants) (c : Dev nD) (bd : Option 𝒱.V) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (v34 : FVec F S16x128 .bf16) (v79 : FVec F S64x256 .bf16) (v81 : FVec F S32x128 .f32) (v108 : IVec S8x128 1) (v125 : IVec S8x128 32) (v126 : FVec F S8x128 .f32) (v128 : IVec S8x128 1) (X_arg6 : BufTy.Contents (Elt F) arg6.view.ty)  (init : FVec F S8x128 .f32) (v69 : FVec F S16x128 .bf16) (v218 : FVec F S8x128 .f32) (v220 : FVec F S8x128 .f32) (v255 : FVec F S32x128 .bf16) (v256 : Vec F S128x128 .bf16) (cst_89 : FVec F S32x128 .f32) (X_arg7 : BufTy.Contents (Elt F) arg7.view.ty)   (init2 : FVec F S8x128 .f32 × FVec F S64x256 .f32) (f : BufTy.Contents (Elt F) arg11.view.ty) (n1 n2 : ℕ) (h1 : n1 = k0_t1_loop.trips) :
    (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v69 v218 v220 v255 v256 cst_89 X_arg7 (arg11.view.writes (Elt F) f ((st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init n1).2)) init2 n2) = sumAt v69 v218 (arg7.view.read (Elt F) X_arg7) (fun k => scoreBlk v34 v79 (chunkK (arg6.view.read (Elt F) X_arg6) (toTrip1 k))) init2 n2 := by
  subst h1
  exact st2_eq (hs := fun k => st1_load (k := k) ..) ..

/-- At a later point the attention output is `attn` of the blocks and the scratch buffers the first point left. -/
theorem runB_out (c : Dev nD) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (hc0 : ¬ cond0_0 i) (x0 : Vec F S4 .f32) (x1 : Vec F S4 .f32) (x2 : Vec F S1x32x128 .f32) (x3 : Vec F S64x128 .f32) (x4 : Vec F S64x128 .f32) (x5 : Vec F S1x32768x128 .fp8e4m3) (x6 : Vec F S1x32768x128 .fp8e4m3) (xs0 : Vec F S8x32768 .f32) (xs1 : Vec F S128x128 .bf16) (xs2 : Vec F S128x128 .bf16) :
    (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2).1
      = [⟨Rect.unit (s := S1x32x128) ![0, 0, 0] S1x32x128.size inb_S1x32x128_S1x32x128_0_0_0, attn i x0 x1 x2 x5 x6 xs1 xs2⟩] := by
  unfold runB; dsimp only
  sl_unfold_run_names
  dsimp only
  rw [readAt_word0 arg1 harg1 x0, readAt_word1 arg1 harg1 x0, readAt_word2 arg1 harg1 x0, readAt_word3 arg1 harg1 x0, readAt_word0 arg2 harg2 x1, readAt_word1 arg2 harg2 x1, readAt_word2 arg2 harg2 x1, readAt_word3 arg2 harg2 x1, readAt_whole arg3 harg3 x2 off3_zero, readAt_whole arg12 harg12 xs1 off2_zero, readAt_whole arg13 harg13 xs2 off2_zero]
  rw [st2_after1 (h1 := rfl), st1_fst, harg6.read_unread, harg7.read_unread]
  rfl

section first

variable (c : Dev nD) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (hc0 : cond0_0 i) (x0 : Vec F S4 .f32) (x1 : Vec F S4 .f32) (x2 : Vec F S1x32x128 .f32) (x3 : Vec F S64x128 .f32) (x4 : Vec F S64x128 .f32) (x5 : Vec F S1x32768x128 .fp8e4m3) (x6 : Vec F S1x32768x128 .fp8e4m3) (xs0 : Vec F S8x32768 .f32)

/-- At the first point the attention output is `attn` of the blocks and the new tokens it dequantised. -/
theorem runA_out : (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).1
      = [⟨Rect.unit (s := S1x32x128) ![0, 0, 0] S1x32x128.size inb_S1x32x128_S1x32x128_0_0_0, attn i x0 x1 x2 x5 x6 (kNew x0 x3) (vNew x1 x4)⟩] := by
  unfold runA; dsimp only
  sl_unfold_run_names
  dsimp only
  rw [readAt_word0 arg1 harg1 x0, readAt_word1 arg1 harg1 x0, readAt_word2 arg1 harg1 x0, readAt_word3 arg1 harg1 x0, readAt_word0 arg2 harg2 x1, readAt_word1 arg2 harg2 x1, readAt_word2 arg2 harg2 x1, readAt_word3 arg2 harg2 x1, readAt_whole arg3 harg3 x2 off3_zero, readAt_whole arg4 harg4 x3 off2_zero, readAt_whole arg5 harg5 x4 off2_zero]
  rw [readCov_whole arg12.view _ off2_zero, readCov_whole arg13.view _ off2_zero]
  rw [st2_after1 (h1 := rfl), st1_fst, harg6.read_unread, harg7.read_unread]
  rfl

/-- At the first point the key codes are `kCode`. -/
theorem runA_k : (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.1
      = [⟨Rect.unit (s := S64x128) ![0, 0] S64x128.size inb_S64x128_S64x128_0_0, kCode x0 x3⟩] := by
  unfold runA; dsimp only
  sl_unfold_run_names
  dsimp only
  rw [readAt_word0 arg1 harg1 x0, readAt_word1 arg1 harg1 x0, readAt_word2 arg1 harg1 x0, readAt_word3 arg1 harg1 x0, readAt_whole arg4 harg4 x3 off2_zero]
  rfl

/-- At the first point the value codes are `vCode`. -/
theorem runA_v : (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.1
      = [⟨Rect.unit (s := S64x128) ![0, 0] S64x128.size inb_S64x128_S64x128_0_0, vCode x1 x4⟩] := by
  unfold runA; dsimp only
  sl_unfold_run_names
  dsimp only
  rw [readAt_word0 arg2 harg2 x1, readAt_word1 arg2 harg2 x1, readAt_word2 arg2 harg2 x1, readAt_word3 arg2 harg2 x1, readAt_whole arg5 harg5 x4 off2_zero]
  rfl

/-- At the first point the key scratch is left at `kNew`. -/
theorem runA_kNew : View.canon (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.1 = kNew x0 x3 := by
  unfold runA; dsimp only
  sl_unfold_run_names
  dsimp only
  rw [readAt_word0 arg1 harg1 x0, readAt_word1 arg1 harg1 x0, readAt_word2 arg1 harg1 x0, readAt_word3 arg1 harg1 x0, readAt_whole arg4 harg4 x3 off2_zero]
  rfl

/-- At the first point the value scratch is left at `vNew`. -/
theorem runA_vNew : View.canon (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.2.1 = vNew x1 x4 := by
  unfold runA; dsimp only
  sl_unfold_run_names
  dsimp only
  rw [readAt_word0 arg2 harg2 x1, readAt_word1 arg2 harg2 x1, readAt_word2 arg2 harg2 x1, readAt_word3 arg2 harg2 x1, readAt_whole arg5 harg5 x4 off2_zero]
  rfl

/-- The first point's stores fill the key scratch. -/
theorem runA_kNew_cover (y : S128x128.Idx) : ∃ p ∈ (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.1, y ∈ p.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.1 S64x128.size (by sl_kernel_rfl) y

/-- The first point's stores fill the value scratch. -/
theorem runA_vNew_cover (y : S128x128.Idx) : ∃ p ∈ (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.2.1, y ∈ p.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.2.1 S64x128.size (by sl_kernel_rfl) y

end first

end Cert.Kernel.Run

end
-- ==== Proof.Kernel.Sound.lean ====
/- The body's obligation at every grid point and the run of the whole program: what each output holds after each point in
   closed form, the launch, and the frame claim. -/
module

public import proofs.«01_k».proof.Proof.Kernel.Found
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One store of a whole buffer leaves its payload. -/
theorem read_whole_write {sp : Space} {S : Shape} {e : EltTy} (v : View sig .tc sp S e) (f : BufTy.Contents (Elt F) v.ty) (w : Vec F S e) {off : Fin S.rank → ℕ} (h : off = fun _ => 0)
    (inb : ∀ d, off d + S.size d ≤ S.size d) (L : List (View.Piece (Elt F) S e)) (hL : L = [⟨Rect.unit off S.size inb, w⟩]) : v.read (Elt F) (v.writes (Elt F) f L) = w := by
  subst hL
  rw [View.read_writes_eq_canon v f _ fun y => ⟨_, List.mem_singleton_self _, View.mem_set_unit_zero h inb y⟩]
  exact View.canon_unit_zero h inb w

/-! ## What the outputs and the scratch buffers hold -/

/-- The first grid point. -/
abbrev pt0 : Fin cfg0.N := ⟨0, by rw [show cfg0.N = 16 from N_0]; decide⟩

/-- The key scratch after the first point. -/
def kNewAt (c : Dev nD) : Vec F S128x128 .bf16 := kNew (iblk m c 0 pt0) (iblk m c 3 pt0)
/-- The value scratch after the first point. -/
def vNewAt (c : Dev nD) : Vec F S128x128 .bf16 := vNew (iblk m c 1 pt0) (iblk m c 4 pt0)
/-- The key codes after any point. -/
def kCodes (c : Dev nD) : Vec F S64x128 .fp8e4m3 := kCode (iblk m c 0 pt0) (iblk m c 3 pt0)
/-- The value codes after any point. -/
def vCodes (c : Dev nD) : Vec F S64x128 .fp8e4m3 := vCode (iblk m c 1 pt0) (iblk m c 4 pt0)
/-- The attention output's block at a point. -/
def outAt (c : Dev nD) (t : Fin cfg0.N) : Vec F S1x32x128 .f32 :=
  attn (grid0.coords t) (iblk m c 0 t) (iblk m c 1 t) (iblk m c 2 t) (iblk m c 5 t) (iblk m c 6 t) (kNewAt m c) (vNewAt m c)

/-- The region's invariant before position `n`: before the first point the launch's; afterwards the score scratch at
    anything, the key and value scratch at what the first point left, and the generator register at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (kNewAt m c) ∗ owns (c : Thread nD τ) scM0_2 fullShare (vNewAt m c)) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- The invariant after a point. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare (kNewAt m c) ∗ owns (c : Thread nD τ) scM0_2 fullShare (vNewAt m c)) ∗ (∃ r, prngReg c r)) := rfl

/-- The invariant before a point that is not the first. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (kNewAt m c) ∗ owns (c : Thread nD τ) scM0_2 fullShare (vNewAt m c)) ∗ (∃ r, prngReg c r)) := by
  cases n with
  | zero => exact absurd rfl hz
  | succ n => rfl

/-- The proof data of the one pipeline on core `c`: the arrays as the region finds them; after the body at a point each
    input's buffer at its block and each output's at its closed form; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
    | ⟨8, _⟩ => kCodes m c
    | ⟨9, _⟩ => vCodes m c
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at its position. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What the body leaves, window by window. -/
/-- What window 0's buffer holds after the body. -/
theorem after0_0 (c : Dev nD) (t : Fin cfg0.N) : (dats m 0 c).after 0 t = iblk m c 0 t := by dsimp only [dats]
/-- What window 1's buffer holds after the body. -/
theorem after0_1 (c : Dev nD) (t : Fin cfg0.N) : (dats m 0 c).after 1 t = iblk m c 1 t := by dsimp only [dats]
/-- What window 2's buffer holds after the body. -/
theorem after0_2 (c : Dev nD) (t : Fin cfg0.N) : (dats m 0 c).after 2 t = iblk m c 2 t := by dsimp only [dats]
/-- What window 3's buffer holds after the body. -/
theorem after0_3 (c : Dev nD) (t : Fin cfg0.N) : (dats m 0 c).after 3 t = iblk m c 3 t := by dsimp only [dats]
/-- What window 4's buffer holds after the body. -/
theorem after0_4 (c : Dev nD) (t : Fin cfg0.N) : (dats m 0 c).after 4 t = iblk m c 4 t := by dsimp only [dats]
/-- What window 5's buffer holds after the body. -/
theorem after0_5 (c : Dev nD) (t : Fin cfg0.N) : (dats m 0 c).after 5 t = iblk m c 5 t := by dsimp only [dats]
/-- What window 6's buffer holds after the body. -/
theorem after0_6 (c : Dev nD) (t : Fin cfg0.N) : (dats m 0 c).after 6 t = iblk m c 6 t := by dsimp only [dats]
/-- What window 7's buffer holds after the body. -/
theorem after0_7 (c : Dev nD) (t : Fin cfg0.N) : (dats m 0 c).after 7 t = outAt m c t := by dsimp only [dats]
/-- What window 8's buffer holds after the body. -/
theorem after0_8 (c : Dev nD) (t : Fin cfg0.N) : (dats m 0 c).after 8 t = kCodes m c := by dsimp only [dats]
/-- What window 9's buffer holds after the body. -/
theorem after0_9 (c : Dev nD) (t : Fin cfg0.N) : (dats m 0 c).after 9 t = vCodes m c := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Window 1's buffer holds its block before the body. -/
theorem before0_1 (c : Dev nD) (t : Fin cfg0.N) (d) : (dats m 0 c).before 1 t d = iblk m c 1 t :=
  before0_1_of m (dats m 0 c) (A_eq m c 1) (after0_1 m c) t d
/-- Window 2's buffer holds its block before the body. -/
theorem before0_2 (c : Dev nD) (t : Fin cfg0.N) (d) : (dats m 0 c).before 2 t d = iblk m c 2 t :=
  before0_2_of m (dats m 0 c) (A_eq m c 2) (after0_2 m c) t d
/-- Window 3's buffer holds its block before the body. -/
theorem before0_3 (c : Dev nD) (t : Fin cfg0.N) (d) : (dats m 0 c).before 3 t d = iblk m c 3 t :=
  before0_3_of m (dats m 0 c) (A_eq m c 3) (after0_3 m c) t d
/-- Window 4's buffer holds its block before the body. -/
theorem before0_4 (c : Dev nD) (t : Fin cfg0.N) (d) : (dats m 0 c).before 4 t d = iblk m c 4 t :=
  before0_4_of m (dats m 0 c) (A_eq m c 4) (after0_4 m c) t d
/-- Window 5's buffer holds its block before the body. -/
theorem before0_5 (c : Dev nD) (t : Fin cfg0.N) (d) : (dats m 0 c).before 5 t d = iblk m c 5 t :=
  before0_5_of m (dats m 0 c) (A_eq m c 5) (after0_5 m c) t d
/-- Window 6's buffer holds its block before the body. -/
theorem before0_6 (c : Dev nD) (t : Fin cfg0.N) (d) : (dats m 0 c).before 6 t d = iblk m c 6 t :=
  before0_6_of m (dats m 0 c) (A_eq m c 6) (after0_6 m c) t d

/-- A point idle for the codes' buffers is not the first. -/
theorem idle0_pos (t : Fin cfg0.N) (h : (!(k0_cond1 (cfg0.grid.coords t) == 1#1)) = true) : t.val ≠ 0 := fun hz => by
  have hc : k0_cond1 (cfg0.grid.coords t) = 1#1 := (hcond0_0 t).mpr (by omega)
  rw [hc] at h
  exact absurd h (by decide)

/-- At a later point the key codes' buffer still holds what the first point left: no later point but the last writes
    it back, and none stores into it. -/
theorem before0_8 (c : Dev nD) : ∀ (n : ℕ) (t : Fin cfg0.N), t.val = n + 1 → ∀ d, (dats m 0 c).before 8 t d = kCodes m c
  | n, t, hn, d => by
    have hN : t.val < 16 := lt_of_lt_of_eq t.isLt (show cfg0.N = 16 from N_0)
    rw [Dat.before_of_pos (dats m 0 c) 8 t (by omega) rfl, if_neg fun h => by
      have := (flush0_8 _).mp h; dsimp only at this; omega]
    unfold Dat.left
    rcases hi : cfg0.idle 8 (cfg0.grid.coords ⟨t.val - 1, Nat.lt_of_le_of_lt (Nat.sub_le _ _) t.isLt⟩) with _ | _
    · rfl
    · match n with
      | 0 => exact absurd (idle0_pos _ hi) (by dsimp only; omega)
      | n + 1 => exact before0_8 c n _ (by dsimp only; omega) d

/-- What the first point left of the key codes meets the obligation on their buffer at every point. -/
theorem leave0_8 (c : Dev nD) (t : Fin cfg0.N) :
    owns (c : Thread nD τ) (ms0_8 t) fullShare ((dats m 0 c).after 8 t)
      ⊢ (match cfg0.idle 8 (cfg0.grid.coords t) with
        | true =>
          match (cfg0.win 8).flush t with
          | false => iprop(∃ d, owns (c : Thread nD τ) ((cfg0.win 8).stage (cfg0.slots t 8)) fullShare ((dats m 0 c).before 8 t d))
          | true => owns (c : Thread nD τ) ((cfg0.win 8).stage (cfg0.slots t 8)) fullShare ((dats m 0 c).after 8 t)
        | false => owns (c : Thread nD τ) ((cfg0.win 8).stage (cfg0.slots t 8)) fullShare ((dats m 0 c).after 8 t) : sProp 𝕄) := by
  rcases hi : cfg0.idle 8 (cfg0.grid.coords t) with _ | _
  · exact .rfl
  · rcases hf : (cfg0.win 8).flush t with _ | _
    · have hz := idle0_pos t hi
      have e := before0_8 m c (t.val - 1) t (by omega)
      simp only [e, after0_8]
      iintro H
      iexists (kCodes m c)
      iexact H
    · exact .rfl

/-- At a later point the value codes' buffer still holds what the first point left: no later point but the last writes
    it back, and none stores into it. -/
theorem before0_9 (c : Dev nD) : ∀ (n : ℕ) (t : Fin cfg0.N), t.val = n + 1 → ∀ d, (dats m 0 c).before 9 t d = vCodes m c
  | n, t, hn, d => by
    have hN : t.val < 16 := lt_of_lt_of_eq t.isLt (show cfg0.N = 16 from N_0)
    rw [Dat.before_of_pos (dats m 0 c) 9 t (by omega) rfl, if_neg fun h => by
      have := (flush0_9 _).mp h; dsimp only at this; omega]
    unfold Dat.left
    rcases hi : cfg0.idle 9 (cfg0.grid.coords ⟨t.val - 1, Nat.lt_of_le_of_lt (Nat.sub_le _ _) t.isLt⟩) with _ | _
    · rfl
    · match n with
      | 0 => exact absurd (idle0_pos _ hi) (by dsimp only; omega)
      | n + 1 => exact before0_9 c n _ (by dsimp only; omega) d

/-- What the first point left of the value codes meets the obligation on their buffer at every point. -/
theorem leave0_9 (c : Dev nD) (t : Fin cfg0.N) :
    owns (c : Thread nD τ) (ms0_9 t) fullShare ((dats m 0 c).after 9 t)
      ⊢ (match cfg0.idle 9 (cfg0.grid.coords t) with
        | true =>
          match (cfg0.win 9).flush t with
          | false => iprop(∃ d, owns (c : Thread nD τ) ((cfg0.win 9).stage (cfg0.slots t 9)) fullShare ((dats m 0 c).before 9 t d))
          | true => owns (c : Thread nD τ) ((cfg0.win 9).stage (cfg0.slots t 9)) fullShare ((dats m 0 c).after 9 t)
        | false => owns (c : Thread nD τ) ((cfg0.win 9).stage (cfg0.slots t 9)) fullShare ((dats m 0 c).after 9 t) : sProp 𝕄) := by
  rcases hi : cfg0.idle 9 (cfg0.grid.coords t) with _ | _
  · exact .rfl
  · rcases hf : (cfg0.win 9).flush t with _ | _
    · have hz := idle0_pos t hi
      have e := before0_9 m c (t.val - 1) t (by omega)
      simp only [e, after0_9]
      iintro H
      iexists (vCodes m c)
      iexact H
    · exact .rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 9600000 in
/-- The body at any point: at the first the run that takes the branch, at a later one the run that does not. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 16 := lt_of_lt_of_eq t.isLt (show cfg0.N = 16 from N_0)
  by_cases hz : t.val = 0
  · have h0 : t.val % 16 = 0 := by omega
    obtain rfl : t = pt0 := Fin.ext hz
    rw [PhiS_castSucc m c pt0, PhiS_zero m c _ _ hz, PhiA0_eq]
    iintro ⟨⟨⟨⟨%xs0, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords pt0) _ _ _ _ _ _ _ _ _ _ _ _ _ _ _ _ _ _ _ _ _ _ _ _ _ _ ((hcond0_0 pt0).mpr h0) (iblk m c 0 pt0) (iblk m c 1 pt0) (iblk m c 2 pt0) (iblk m c 3 pt0) (iblk m c 4 pt0) (iblk m c 5 pt0) (iblk m c 6 pt0) xs0).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, ⟨%e7, H7⟩, ⟨%e8, H8⟩, ⟨%e9, H9⟩, HS0, ⟨%es1, HS1⟩, ⟨%es2, HS2⟩⟩
    isplitl [HS0 HS1 HS2 Hg]
    · isplitl [HS0 HS1 HS2]
      · isplitl [HS0]
        · iexact HS0
        isplitl [HS1]
        · unfold owns; iexists _; isplitr
          swap; · iexact HS1
          ipureintro; exact (View.read_writes_eq_canon _ _ _ (fun y => runA_kNew_cover (y := y) ..)).trans (runA_kNew ..)
        unfold owns; iexists _; isplitr
        swap; · iexact HS2
        ipureintro; exact (View.read_writes_eq_canon _ _ _ (fun y => runA_vNew_cover (y := y) ..)).trans (runA_vNew ..)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact read_whole_write _ _ _ off3_zero _ _ (runA_out ..)
    isplitl [H8]
    · unfold owns; iexists _; isplitr
      swap; · iexact H8
      ipureintro; exact read_whole_write _ _ _ off2_zero _ _ (runA_k ..)
    unfold owns; iexists _; isplitr
    swap; · iexact H9
    ipureintro; exact read_whole_write _ _ _ off2_zero _ _ (runA_v ..)
  · have h0 : ¬ t.val % 16 = 0 := by omega
    rw [PhiS_castSucc m c t, PhiS_pos m c _ _ hz]
    simp only [before0_8 m c (t.val - 1) t (by omega), before0_9 m c (t.val - 1) t (by omega)]
    iintro ⟨⟨⟨⟨%xs0, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) xs0 (kNewAt m c) (vNewAt m c)).2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, ⟨%e7, H7⟩, H8, H9, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact read_whole_write _ _ _ off3_zero _ _ (runB_out ..)
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => by
    unfold bodyPost
    repeat' apply Idealize.SL.BI.sep_mono
    all_goals first | exact leave0_8 m c t | exact leave0_9 m c t | exact Idealize.SL.BI.Entails.refl _

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame claim at any values: every run ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Run

end
-- ==== Proof.KernelIdeal.Basics.lean ====
/- What the runs of the kernel's body are stated over: the condition of its one branch, each window's current
   staging buffer at a point, the scratch buffers, and the launch's invariant with the scratch buffers named. -/
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- One staging buffer of output window 7, through which its contents are stated (`View.read_writes_of_cover`: the
    choice does not matter). -/
abbrev VO0_7 : View sig .tc .vmem S1x32x128 .f32 := (Memref.whole cc0_stg7_0 : Memref sig .tc .vmem S1x32x128 .f32).view
/-- One staging buffer of output window 8, through which its contents are stated (`View.read_writes_of_cover`: the
    choice does not matter). -/
abbrev VO0_8 : View sig .tc .vmem S64x128 .fp8e4m3 := (Memref.whole cc0_stg8_0 : Memref sig .tc .vmem S64x128 .fp8e4m3).view
/-- One staging buffer of output window 9, through which its contents are stated (`View.read_writes_of_cover`: the
    choice does not matter). -/
abbrev VO0_9 : View sig .tc .vmem S64x128 .fp8e4m3 := (Memref.whole cc0_stg9_0 : Memref sig .tc .vmem S64x128 .fp8e4m3).view
/-- Each window's current staging memref at point `t`, spelled as the pipeline passes it (`bodyAt0`), and its wholeness. -/
abbrev ms0_0 (t : Fin cfg0.N) : Memref sig .tc .smem S4 .f32 := win0_0.stage (cfg0.slots t 0)
/-- Window 0's staging buffer is whole. -/
abbrev hs0_0 (t : Fin cfg0.N) : (ms0_0 t).IsWhole := hstage0_0 ((cfg0.slots t 0).cast nbuf0_0)
/-- Window 1's staging buffer at a grid point. -/
abbrev ms0_1 (t : Fin cfg0.N) : Memref sig .tc .smem S4 .f32 := win0_1.stage (cfg0.slots t 1)
/-- Window 1's staging buffer is whole. -/
abbrev hs0_1 (t : Fin cfg0.N) : (ms0_1 t).IsWhole := hstage0_1 ((cfg0.slots t 1).cast nbuf0_1)
/-- Window 2's staging buffer at a grid point. -/
abbrev ms0_2 (t : Fin cfg0.N) : Memref sig .tc .vmem S1x32x128 .f32 := win0_2.stage (cfg0.slots t 2)
/-- Window 2's staging buffer is whole. -/
abbrev hs0_2 (t : Fin cfg0.N) : (ms0_2 t).IsWhole := hstage0_2 ((cfg0.slots t 2).cast nbuf0_2)
/-- Window 3's staging buffer at a grid point. -/
abbrev ms0_3 (t : Fin cfg0.N) : Memref sig .tc .vmem S64x128 .f32 := win0_3.stage (cfg0.slots t 3)
/-- Window 3's staging buffer is whole. -/
abbrev hs0_3 (t : Fin cfg0.N) : (ms0_3 t).IsWhole := hstage0_3 ((cfg0.slots t 3).cast nbuf0_3)
/-- Window 4's staging buffer at a grid point. -/
abbrev ms0_4 (t : Fin cfg0.N) : Memref sig .tc .vmem S64x128 .f32 := win0_4.stage (cfg0.slots t 4)
/-- Window 4's staging buffer is whole. -/
abbrev hs0_4 (t : Fin cfg0.N) : (ms0_4 t).IsWhole := hstage0_4 ((cfg0.slots t 4).cast nbuf0_4)
/-- Window 5's staging buffer at a grid point. -/
abbrev ms0_5 (t : Fin cfg0.N) : Memref sig .tc .vmem S1x32768x128 .fp8e4m3 := win0_5.stage (cfg0.slots t 5)
/-- Window 5's staging buffer is whole. -/
abbrev hs0_5 (t : Fin cfg0.N) : (ms0_5 t).IsWhole := hstage0_5 ((cfg0.slots t 5).cast nbuf0_5)
/-- Window 6's staging buffer at a grid point. -/
abbrev ms0_6 (t : Fin cfg0.N) : Memref sig .tc .vmem S1x32768x128 .fp8e4m3 := win0_6.stage (cfg0.slots t 6)
/-- Window 6's staging buffer is whole. -/
abbrev hs0_6 (t : Fin cfg0.N) : (ms0_6 t).IsWhole := hstage0_6 ((cfg0.slots t 6).cast nbuf0_6)
/-- Window 7's staging buffer at a grid point. -/
abbrev ms0_7 (t : Fin cfg0.N) : Memref sig .tc .vmem S1x32x128 .f32 := win0_7.stage (cfg0.slots t 7)
/-- Window 7's staging buffer is whole. -/
abbrev hs0_7 (t : Fin cfg0.N) : (ms0_7 t).IsWhole := hstage0_7 ((cfg0.slots t 7).cast nbuf0_7)
/-- Window 8's staging buffer at a grid point. -/
abbrev ms0_8 (t : Fin cfg0.N) : Memref sig .tc .vmem S64x128 .fp8e4m3 := win0_8.stage (cfg0.slots t 8)
/-- Window 8's staging buffer is whole. -/
abbrev hs0_8 (t : Fin cfg0.N) : (ms0_8 t).IsWhole := hstage0_8 ((cfg0.slots t 8).cast nbuf0_8)
/-- Window 9's staging buffer at a grid point. -/
abbrev ms0_9 (t : Fin cfg0.N) : Memref sig .tc .vmem S64x128 .fp8e4m3 := win0_9.stage (cfg0.slots t 9)
/-- Window 9's staging buffer is whole. -/
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S8x32768 .f32 := Memref.whole cc0_scratch0
/-- The scratch buffer of the new keys. -/
abbrev scM0_1 : Memref sig .tc .vmem S128x128 .bf16 := Memref.whole cc0_scratch1
/-- The scratch buffer of the new values. -/
abbrev scM0_2 : Memref sig .tc .vmem S128x128 .bf16 := Memref.whole cc0_scratch2
/-- The scratch `arg12` the kernel carries between points, as a view: what it holds is stated through it. -/
abbrev VS0_1 : View sig .tc .vmem S128x128 .bf16 := scM0_1.view
/-- The scratch `arg13` the kernel carries between points, as a view: what it holds is stated through it. -/
abbrev VS0_2 : View sig .tc .vmem S128x128 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Run

end
-- ==== Proof.KernelIdeal.Closed.lean ====
/- The values the kernel's body computes, as functions of its inputs alone: the codes and dequantised new tokens of the
   first point, the two loops over the cache, and the attention output. -/
module

public import proofs.«01_k».proof.Proof.KernelIdeal.Basics
public import Idealize.ShloMosaic.Lib.ValueIdx

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Word `j` of a four-word scale table. -/
def word (x : Vec F S4 .f32) (j : Fin 4) : F .f32 := x (ValueIdx.ix1 j)

/-- The `k`-th block of 2048 tokens of the key cache, as the first loop reads it. -/
def chunkK (x : Vec F S1x32768x128 .fp8e4m3) (k : Fin k0_t1_loop.trips) : Vec F S1x2048x128 .fp8e4m3 :=
  View.ld (S := S1x32768x128) x (Rect.unit (k0_off1 k) S1x2048x128.size (k0_off1_inb k))

/-- The `k`-th block of 2048 tokens of the value cache, as the second loop reads it. -/
def chunkV (x : Vec F S1x32768x128 .fp8e4m3) (k : Fin k0_t2_loop.trips) : Vec F S1x2048x128 .fp8e4m3 :=
  View.ld (S := S1x32768x128) x (Rect.unit (k0_off3 k) S1x2048x128.size (k0_off3_inb k))

/-- The scores one block of keys yields, as the first loop stores them. -/
def scoreBlk (v34 : FVec F S16x128 .bf16) (v79 : FVec F S64x256 .bf16) (ch : Vec F S1x2048x128 .fp8e4m3) : FVec F S8x2048 .f32 :=
  k0_pay14 (k0_pay8 v34 v79 ch) (k0_pay9 v34 v79 ch) (k0_pay11 v34 v79 ch) k0_pay12

/-- One trip of the first loop on its carried value: the running maximum per lane. -/
def maxStep (v34 : FVec F S16x128 .bf16) (v79 : FVec F S64x256 .bf16) (ch : Vec F S1x2048x128 .fp8e4m3) (acc : FVec F S8x128 .f32) : FVec F S8x128 .f32 :=
  k0_pay39 (k0_pay13 (k0_pay8 v34 v79 ch) (k0_pay9 v34 v79 ch) (k0_pay11 v34 v79 ch) k0_pay12)
    (k0_pay15 acc (k0_pay8 v34 v79 ch) (k0_pay9 v34 v79 ch) (k0_pay11 v34 v79 ch) k0_pay12)

/-- One trip of the second loop on its carried pair: the running sum of weights per lane and the weighted values. -/
def sumStep (v69 : FVec F S16x128 .bf16) (mx : FVec F S8x128 .f32) (ch : Vec F S1x2048x128 .fp8e4m3) (s : FVec F S8x2048 .f32)
    (acc : FVec F S8x128 .f32 × FVec F S64x256 .f32) : FVec F S8x128 .f32 × FVec F S64x256 .f32 :=
  (k0_pay18 mx acc.1 s,
   k0_pay50 acc.2 (k0_pay16 v69 ch) (k0_pay20 (k0_pay19 mx s) (iota .tc S8x1024 32 [1] iota_S8x1024_d1_w32))
     (k0_pay21 (k0_pay17 mx s)) 4#32 k0_pay22 k0_pay23)

/-- The first loop's carried value before trip `n`. -/
def maxAt (v34 : FVec F S16x128 .bf16) (v79 : FVec F S64x256 .bf16) (x : Vec F S1x32768x128 .fp8e4m3) (init : FVec F S8x128 .f32) : ℕ → FVec F S8x128 .f32
  | 0 => init
  | n + 1 => if h : n < k0_t1_loop.trips then maxStep v34 v79 (chunkK x ⟨n, h⟩) (maxAt v34 v79 x init n) else maxAt v34 v79 x init n

/-- The second loop's carried pair before trip `n`, the `k`-th block of scores being `s k`. -/
def sumAt (v69 : FVec F S16x128 .bf16) (mx : FVec F S8x128 .f32) (x : Vec F S1x32768x128 .fp8e4m3) (s : Fin k0_t2_loop.trips → FVec F S8x2048 .f32)
    (init : FVec F S8x128 .f32 × FVec F S64x256 .f32) : ℕ → FVec F S8x128 .f32 × FVec F S64x256 .f32
  | 0 => init
  | n + 1 => if h : n < k0_t2_loop.trips then sumStep v69 mx (chunkV x ⟨n, h⟩) (s ⟨n, h⟩) (sumAt v69 mx x s init n) else sumAt v69 mx x s init n

/-- The two loops make the same number of trips: a trip of the second as one of the first. -/
abbrev toTrip1 (k : Fin k0_t2_loop.trips) : Fin k0_t1_loop.trips := k

/-- The key scales spread over the rows of a block of keys. -/
def kScale (x0 : Vec F S4 .f32) : FVec F S16x128 .bf16 := k0_pay24 (word x0 0) (word x0 1) (word x0 2) (word x0 3)

/-- The value scales spread over the rows of a block of values. -/
def vScale (x1 : Vec F S4 .f32) : FVec F S16x128 .bf16 := k0_pay27 4#32 k0_pay25 k0_pay26 (word x1 0) (word x1 1) (word x1 2) (word x1 3)

/-- The codes of the new keys. -/
def kCode (x0 : Vec F S4 .f32) (x3 : Vec F S64x128 .f32) : Vec F S64x128 .fp8e4m3 := k0_pay2 x3 (word x0 0) (word x0 1) (word x0 2) (word x0 3)

/-- The codes of the new values. -/
def vCode (x1 : Vec F S4 .f32) (x4 : Vec F S64x128 .f32) : Vec F S64x128 .fp8e4m3 :=
  k0_pay28 (k0_pay5 x4) k0_pay6 (k0_pay7 (word x1 0) (word x1 1)) (word x1 2) (word x1 3)

/-- The dequantised new keys, the upper half zero. -/
def kNew (x0 : Vec F S4 .f32) (x3 : Vec F S64x128 .f32) : Vec F S128x128 .bf16 :=
  View.canon (Val := Elt F) (s := S128x128) (e := .bf16) [⟨Rect.unit (s := S128x128) ![64, 0] S64x128.size inb_S128x128_S64x128_64_0, k0_pay4⟩,
    ⟨Rect.unit (s := S128x128) ![0, 0] S64x128.size inb_S128x128_S64x128_0_0, k0_pay3 (kScale x0) (kCode x0 x3)⟩]

/-- The dequantised new values, the upper half zero. -/
def vNew (x1 : Vec F S4 .f32) (x4 : Vec F S64x128 .f32) : Vec F S128x128 .bf16 :=
  View.canon (Val := Elt F) (s := S128x128) (e := .bf16) [⟨Rect.unit (s := S128x128) ![64, 0] S64x128.size inb_S128x128_S64x128_64_0, k0_pay30⟩,
    ⟨Rect.unit (s := S128x128) ![0, 0] S64x128.size inb_S128x128_S64x128_0_0,
      k0_pay29 4#32 k0_pay25 k0_pay26 (word x1 0) (word x1 1) (word x1 2) (word x1 3) (k0_pay5 x4) k0_pay6 (k0_pay7 (word x1 0) (word x1 1)) (word x1 2) (word x1 3)⟩]

/-- The products of the queries with the new keys. -/
def newDot (x2 : Vec F S1x32x128 .f32) (kn : Vec F S128x128 .bf16) : FVec F S32x128 .f32 := k0_pay33 x2 kn

/-- The scores of the new tokens, one per head, spread over the lanes. -/
def newScore (i : grid0.Coords) (x2 : Vec F S1x32x128 .f32) (kn : Vec F S128x128 .bf16) : FVec F S8x128 .f32 :=
  k0_pay38 (newDot x2 kn) (k0_pay34 (BitVec.ofNat 32 (i 0).val) (iota .tc S8x128 32 [1] iota_S8x128_d1_w32)) k0_pay35 (k0_pay36 (newDot x2 kn)) k0_pay37

/-- What the first loop leaves: the maximum per lane. -/
def laneMax (i : grid0.Coords) (x0 : Vec F S4 .f32) (x2 : Vec F S1x32x128 .f32) (x5 : Vec F S1x32768x128 .fp8e4m3) (kn : Vec F S128x128 .bf16) : FVec F S8x128 .f32 :=
  maxAt (kScale x0) (k0_pay32 x2) x5 (newScore i x2 kn) k0_t1_loop.trips

/-- The maximum per head, spread over the lanes, from the maximum per lane. -/
def headMax (lm : FVec F S8x128 .f32) : FVec F S8x128 .f32 :=
  k0_pay46 (k0_pay43 lm k0_pay40 (k0_pay41 lm) k0_pay42 (FloatOps.ofBits .f32 0xFF800000#32)) k0_pay44
    (k0_pay45 lm k0_pay40 (k0_pay41 lm) k0_pay42 (FloatOps.ofBits .f32 0xFF800000#32))

/-- The weight of the new token, from its score and the maximum per lane. -/
def newWeight (sn lm : FVec F S8x128 .f32) : FVec F S8x128 .f32 :=
  k0_pay47 sn (k0_pay43 lm k0_pay40 (k0_pay41 lm) k0_pay42 (FloatOps.ofBits .f32 0xFF800000#32)) k0_pay44
    (k0_pay45 lm k0_pay40 (k0_pay41 lm) k0_pay42 (FloatOps.ofBits .f32 0xFF800000#32))

/-- The weight of the new token as the operand of its product with the new values. -/
def newWeight' (sn lm : FVec F S8x128 .f32) : FVec F S32x128 .bf16 :=
  k0_pay48 sn (k0_pay43 lm k0_pay40 (k0_pay41 lm) k0_pay42 (FloatOps.ofBits .f32 0xFF800000#32)) k0_pay44
    (k0_pay45 lm k0_pay40 (k0_pay41 lm) k0_pay42 (FloatOps.ofBits .f32 0xFF800000#32))

/-- What the second loop leaves: the sum of weights per lane and the weighted values. -/
def sums (i : grid0.Coords) (x0 x1 : Vec F S4 .f32) (x2 : Vec F S1x32x128 .f32) (x5 x6 : Vec F S1x32768x128 .fp8e4m3) (kn : Vec F S128x128 .bf16) : FVec F S8x128 .f32 × FVec F S64x256 .f32 :=
  sumAt (vScale x1) (headMax (laneMax i x0 x2 x5 kn)) x6 (fun k => scoreBlk (kScale x0) (k0_pay32 x2) (chunkK x5 (toTrip1 k)))
    (newWeight (newScore i x2 kn) (laneMax i x0 x2 x5 kn), k0_pay49) k0_t2_loop.trips

/-- The output from the new tokens' weight, the new values and what the second loop leaves. -/
def finish (nw : FVec F S32x128 .bf16) (vn : Vec F S128x128 .bf16) (a : FVec F S8x128 .f32 × FVec F S64x256 .f32) : Vec F S1x32x128 .f32 :=
  k0_pay1 a.1 (k0_pay51 nw vn (constant S32x128 .f32 0#32) a.2) k0_pay52 (k0_pay53 a.1) (k0_pay54 a.1) (k0_pay55 a.1)

/-- The attention output of one sequence. -/
def attn (i : grid0.Coords) (x0 x1 : Vec F S4 .f32) (x2 : Vec F S1x32x128 .f32) (x5 x6 : Vec F S1x32768x128 .fp8e4m3) (kn vn : Vec F S128x128 .bf16) : Vec F S1x32x128 .f32 :=
  finish (newWeight' (newScore i x2 kn) (laneMax i x0 x2 x5 kn)) vn (sums i x0 x1 x2 x5 x6 kn)

end Cert.KernelIdeal.Run

end
-- ==== Proof.KernelIdeal.Trip.lean ====
/- The two loops in closed form: what the generated recursions hold is what the plain recursions over the blocks hold. -/
module

public import proofs.«01_k».proof.Proof.KernelIdeal.Closed
public import Idealize.ShloMosaic.Lib.WritesUnit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip of the first loop carries `maxStep`. -/
theorem trip1_yield (𝒱 : Variants) (c : Dev nD) (bd : Option 𝒱.V) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (v34 : FVec F S16x128 .bf16) (v79 : FVec F S64x256 .bf16) (v81 : FVec F S32x128 .f32) (v108 : IVec S8x128 1) (v125 : IVec S8x128 32) (v126 : FVec F S8x128 .f32) (v128 : IVec S8x128 1) (X_arg6 : BufTy.Contents (Elt F) arg6.view.ty) (k : Fin k0_t1_loop.trips)  : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 k).1 = fun acc => maxStep v34 v79 (chunkK (arg6.view.read (Elt F) X_arg6) k) acc := by
  unfold trip_k0_t1; dsimp only
  sl_unfold_run_names
  funext acc
  rfl

/-- One trip of the first loop stores its block of scores. -/
theorem trip1_pieces (𝒱 : Variants) (c : Dev nD) (bd : Option 𝒱.V) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (v34 : FVec F S16x128 .bf16) (v79 : FVec F S64x256 .bf16) (v81 : FVec F S32x128 .f32) (v108 : IVec S8x128 1) (v125 : IVec S8x128 32) (v126 : FVec F S8x128 .f32) (v128 : IVec S8x128 1) (X_arg6 : BufTy.Contents (Elt F) arg6.view.ty) (k : Fin k0_t1_loop.trips)  : (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 k).2.1 = fun acc => [⟨Rect.unit (k0_off2 k) S8x2048.size (k0_off2_inb k), scoreBlk v34 v79 (chunkK (arg6.view.read (Elt F) X_arg6) k)⟩] := by
  unfold trip_k0_t1; dsimp only
  sl_unfold_run_names
  funext acc
  rfl

/-- One trip of the second loop carries `sumStep`. -/
theorem trip2_yield (𝒱 : Variants) (c : Dev nD) (bd : Option 𝒱.V) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (v69 : FVec F S16x128 .bf16) (v218 : FVec F S8x128 .f32) (v220 : FVec F S8x128 .f32) (v255 : FVec F S32x128 .bf16) (v256 : Vec F S128x128 .bf16) (cst_89 : FVec F S32x128 .f32) (X_arg7 : BufTy.Contents (Elt F) arg7.view.ty) (X_arg11 : BufTy.Contents (Elt F) arg11.view.ty) (k : Fin k0_t2_loop.trips)  : (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v69 v218 v220 v255 v256 cst_89 X_arg7 X_arg11 k).1 = fun acc => sumStep v69 v218 (chunkV (arg7.view.read (Elt F) X_arg7) k) (View.readAt (Elt F) arg11.view (Rect.unit (s := S8x32768) (k0_off4 k) S8x2048.size (k0_off4_inb k)).toLoadRect X_arg11) acc := by
  unfold trip_k0_t2; dsimp only
  sl_unfold_run_names
  funext acc
  rfl

/-- The first loop's carried value is `maxAt`. -/
theorem st1_fst (𝒱 : Variants) (c : Dev nD) (bd : Option 𝒱.V) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (v34 : FVec F S16x128 .bf16) (v79 : FVec F S64x256 .bf16) (v81 : FVec F S32x128 .f32) (v108 : IVec S8x128 1) (v125 : IVec S8x128 32) (v126 : FVec F S8x128 .f32) (v128 : IVec S8x128 1) (X_arg6 : BufTy.Contents (Elt F) arg6.view.ty)  (init : FVec F S8x128 .f32) : ∀ n, (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init n).1 = maxAt v34 v79 (arg6.view.read (Elt F) X_arg6) init n
  | 0 => rfl
  | n + 1 => by
    have ih := st1_fst 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init n
    by_cases h : n < k0_t1_loop.trips
    · rw [maxAt, dif_pos h, ← ih]
      refine (congrArg Prod.fst (st_k0_t1_succ (k := ⟨n, h⟩) ..)).trans ?_
      exact congrFun (trip1_yield ..) _
    · rw [maxAt, dif_neg h, ← ih, st_k0_t1.eq_2]
      unfold st_k0_t1Step
      rw [dif_neg h]

/-- A block of scores just stored reads back. -/
theorem blk_mem {sp : Space} (v : View sig .tc sp S8x32768 .f32) (f : BufTy.Contents (Elt F) v.ty) (k : Fin k0_t1_loop.trips) (w : FVec F S8x2048 .f32)
    (L : List (View.Piece (Elt F) S8x32768 .f32)) (x : S8x2048.Idx) :
    v.read (Elt F) (v.writes (Elt F) f (⟨Rect.unit (k0_off2 k) S8x2048.size (k0_off2_inb k), w⟩ :: L)) ((Rect.unit (s := S8x32768) (k0_off2 k) S8x2048.size (k0_off2_inb k)).emb x) = w x :=
  View.read_writes_cons_unit_of_mem (s := S8x32768) (e := .f32) v f (off := k0_off2 k) (off' := k0_off2 k) (size := S8x2048.size) (k0_off2_inb k) w L _ x rfl (fun a => congrArg (k0_off2 k a + ·) (Nat.one_mul _))

/-- Storing a later block of scores leaves an earlier one. -/
theorem blk_not_mem {sp : Space} (v : View sig .tc sp S8x32768 .f32) (f : BufTy.Contents (Elt F) v.ty) (k k' : Fin k0_t1_loop.trips) (hk : k.val < k'.val) (w : FVec F S8x2048 .f32)
    (L : List (View.Piece (Elt F) S8x32768 .f32)) (x : S8x2048.Idx) :
    v.read (Elt F) (v.writes (Elt F) f (⟨Rect.unit (k0_off2 k') S8x2048.size (k0_off2_inb k'), w⟩ :: L)) ((Rect.unit (s := S8x32768) (k0_off2 k) S8x2048.size (k0_off2_inb k)).emb x)
      = v.read (Elt F) (v.writes (Elt F) f L) ((Rect.unit (s := S8x32768) (k0_off2 k) S8x2048.size (k0_off2_inb k)).emb x) :=
  View.read_writes_cons_unit_of_not_mem v f _ _ _ _ (k0_off2_eq k') 1 (Or.inl (by
    have h1 : (k0_off2 k) 1 = 2048 * k.val := congrFun (k0_off2_eq k) 1
    have h2 : (x 1).val < 2048 := (x 1).isLt
    show (k0_off2 k) 1 + 1 * (x 1).val < 2048 * k'.val
    omega))

/-- Before trip `n` of the first loop, the score scratch holds every earlier block of scores, whatever it held before. -/
theorem st1_read (𝒱 : Variants) (c : Dev nD) (bd : Option 𝒱.V) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (v34 : FVec F S16x128 .bf16) (v79 : FVec F S64x256 .bf16) (v81 : FVec F S32x128 .f32) (v108 : IVec S8x128 1) (v125 : IVec S8x128 32) (v126 : FVec F S8x128 .f32) (v128 : IVec S8x128 1) (X_arg6 : BufTy.Contents (Elt F) arg6.view.ty)  (init : FVec F S8x128 .f32) (f : BufTy.Contents (Elt F) arg11.view.ty) : ∀ n, n ≤ k0_t1_loop.trips → ∀ k : Fin k0_t1_loop.trips, k.val < n → ∀ x : S8x2048.Idx,
    arg11.view.read (Elt F) (arg11.view.writes (Elt F) f ((st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init n).2)) ((Rect.unit (s := S8x32768) (k0_off2 k) S8x2048.size (k0_off2_inb k)).emb x)
      = scoreBlk v34 v79 (chunkK (arg6.view.read (Elt F) X_arg6) k) x
  | 0, _, k, hk, _ => absurd hk (Nat.not_lt_zero _)
  | n + 1, hn, k, hk, x => by
    have ih := st1_read 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init f n (Nat.le_of_succ_le hn)
    have h : n < k0_t1_loop.trips := hn
    have e : (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init (n + 1)).2 = ⟨Rect.unit (k0_off2 ⟨n, h⟩) S8x2048.size (k0_off2_inb ⟨n, h⟩), scoreBlk v34 v79 (chunkK (arg6.view.read (Elt F) X_arg6) ⟨n, h⟩)⟩ :: (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init n).2 := by
      refine (congrArg Prod.snd (st_k0_t1_succ (k := ⟨n, h⟩) ..)).trans ?_
      exact congrArg (· ++ _) (congrFun (trip1_pieces ..) _)
    rw [e]
    generalize (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init n).2 = L at ih ⊢
    by_cases hkn : k.val = n
    · obtain rfl : k = ⟨n, h⟩ := Fin.ext hkn
      exact blk_mem _ _ _ _ _ x
    · have hlt : k.val < n := by omega
      exact (blk_not_mem _ _ k ⟨n, h⟩ hlt _ _ x).trans (ih k hlt x)

/-- The block of scores the second loop loads is the block the first loop stored. -/
theorem st1_load (𝒱 : Variants) (c : Dev nD) (bd : Option 𝒱.V) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (v34 : FVec F S16x128 .bf16) (v79 : FVec F S64x256 .bf16) (v81 : FVec F S32x128 .f32) (v108 : IVec S8x128 1) (v125 : IVec S8x128 32) (v126 : FVec F S8x128 .f32) (v128 : IVec S8x128 1) (X_arg6 : BufTy.Contents (Elt F) arg6.view.ty)  (init : FVec F S8x128 .f32) (f : BufTy.Contents (Elt F) arg11.view.ty) (k : Fin k0_t2_loop.trips) :
    View.readAt (Elt F) arg11.view (Rect.unit (s := S8x32768) (k0_off4 k) S8x2048.size (k0_off4_inb k)).toLoadRect (arg11.view.writes (Elt F) f ((st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init k0_t1_loop.trips).2))
      = scoreBlk v34 v79 (chunkK (arg6.view.read (Elt F) X_arg6) (toTrip1 k)) := by
  funext x
  exact st1_read 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init f _ le_rfl (toTrip1 k) k.isLt x

/-- The second loop's carried pair is `sumAt`, when its loads of the score scratch read the blocks `s`. -/
theorem st2_eq (𝒱 : Variants) (c : Dev nD) (bd : Option 𝒱.V) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (v69 : FVec F S16x128 .bf16) (v218 : FVec F S8x128 .f32) (v220 : FVec F S8x128 .f32) (v255 : FVec F S32x128 .bf16) (v256 : Vec F S128x128 .bf16) (cst_89 : FVec F S32x128 .f32) (X_arg7 : BufTy.Contents (Elt F) arg7.view.ty) (X_arg11 : BufTy.Contents (Elt F) arg11.view.ty)  (init : FVec F S8x128 .f32 × FVec F S64x256 .f32) (s : Fin k0_t2_loop.trips → FVec F S8x2048 .f32)
    (hs : ∀ k, View.readAt (Elt F) arg11.view (Rect.unit (s := S8x32768) (k0_off4 k) S8x2048.size (k0_off4_inb k)).toLoadRect X_arg11 = s k) : ∀ n, (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v69 v218 v220 v255 v256 cst_89 X_arg7 X_arg11 init n) = sumAt v69 v218 (arg7.view.read (Elt F) X_arg7) s init n
  | 0 => rfl
  | n + 1 => by
    have ih := st2_eq 𝒱 c bd i arg1 harg1 arg2 harg2 arg3 harg3 arg4 harg4 arg5 harg5 arg6 harg6 arg7 harg7 arg8 harg8 arg9 harg9 arg10 harg10 arg11 harg11 arg12 harg12 arg13 harg13 v69 v218 v220 v255 v256 cst_89 X_arg7 X_arg11 init s hs n
    by_cases h : n < k0_t2_loop.trips
    · rw [sumAt, dif_pos h, ← ih, ← hs]
      refine (st_k0_t2_succ (k := ⟨n, h⟩) ..).trans ?_
      exact congrFun (trip2_yield ..) _
    · rw [sumAt, dif_neg h, ← ih, st_k0_t2.eq_2]
      unfold st_k0_t2Step
      rw [dif_neg h]

end Cert.KernelIdeal.Run

end
-- ==== Proof.KernelIdeal.CaseA.lean ====
/- The run of the kernel's body at the first point of the grid. -/
module

public import proofs.«01_k».proof.Proof.KernelIdeal.Basics

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at the first point (the branch is taken): on whole buffers, the inputs at their contents and the score
    scratch at `xs0`, it ends with the inputs as they were and with each output and each of the other two scratch buffers
    holding the pieces the run finds. -/
noncomputable def runA (c : Dev nD) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (hc0 : cond0_0 i)
    (x0 : Vec F S4 .f32) (x1 : Vec F S4 .f32) (x2 : Vec F S1x32x128 .f32) (x3 : Vec F S64x128 .f32) (x4 : Vec F S64x128 .f32) (x5 : Vec F S1x32768x128 .fp8e4m3) (x6 : Vec F S1x32768x128 .fp8e4m3) (xs0 : Vec F S8x32768 .f32) :
    Σ' (L7 : List (View.Piece (Elt F) S1x32x128 .f32)) (L8 : List (View.Piece (Elt F) S64x128 .fp8e4m3)) (L9 : List (View.Piece (Elt F) S64x128 .fp8e4m3)) (LS1 : List (View.Piece (Elt F) S128x128 .bf16)), { LS2 : List (View.Piece (Elt F) S128x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0_gqa_decode_fp8 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_gqa_decode_fp8_eq_skeleton]; unfold cc0_gqa_decode_fp8_skel
    simp only [k0_part7_eq_skeleton, k0_part8_eq_skeleton, k0_part9_eq_skeleton, k0_part10_eq_skeleton, k0_part1_eq_skeleton, k0_part2_eq_skeleton, k0_part11_eq_skeleton, k0_part12_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%d12, %f12, -, H12⟩, ⟨%d13, %f13, -, H13⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]
    · iexists _, _; isplitr; swap; · iexact H11
      ipureintro; rfl
    isplitl [H12]; · iexists _; iexact H12
    iexists _; iexact H13

end Cert.KernelIdeal.Run

end
-- ==== Proof.KernelIdeal.CaseB.lean ====
/- The run of the kernel's body at the later points of the grid. -/
module

public import proofs.«01_k».proof.Proof.KernelIdeal.CaseA

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at every later point (the branch is not taken): on whole buffers, the inputs at their contents, the
    scratch buffers at `xs0`, `xs1`, `xs2` and the two code outputs at any `x8`, `x9`, it ends with everything but the
    attention output and the score scratch as it was, and the attention output holding the pieces the run finds. -/
noncomputable def runB (c : Dev nD) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (hc0 : ¬cond0_0 i)
    (x0 : Vec F S4 .f32) (x1 : Vec F S4 .f32) (x2 : Vec F S1x32x128 .f32) (x3 : Vec F S64x128 .f32) (x4 : Vec F S64x128 .f32) (x5 : Vec F S1x32768x128 .fp8e4m3) (x6 : Vec F S1x32768x128 .fp8e4m3) (xs0 : Vec F S8x32768 .f32) (xs1 : Vec F S128x128 .bf16) (xs2 : Vec F S128x128 .bf16) :
    { L7 : List (View.Piece (Elt F) S1x32x128 .f32) //
      ∀ (x8 : Vec F S64x128 .fp8e4m3) (x9 : Vec F S64x128 .fp8e4m3) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare x8 ∗ owns (c : Thread nD τ) arg10 fullShare x9 ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare x8 ∗ owns (c : Thread nD τ) arg10 fullShare x9 ∗ (∃ d, owns (c : Thread nD τ) arg11 fullShare d) ∗ owns (c : Thread nD τ) arg12 fullShare xs1 ∗ owns (c : Thread nD τ) arg13 fullShare xs2) -∗ K ⟨⟩))
          ⊢ wp frame (wpE (defs₀ (F := F)) Variants.none c none) E (cc0_gqa_decode_fp8 i arg1 harg1 arg2 harg2 arg3 harg3 arg4 harg4 arg5 harg5 arg6 harg6 arg7 harg7 arg8 harg8 arg9 harg9 arg10 harg10 arg11 harg11 arg12 harg12 arg13 harg13) K } := by
  refine ⟨?_, fun x8 x9 E K => ?run⟩
  case run =>
    simp only [cc0_gqa_decode_fp8_eq_skeleton]; unfold cc0_gqa_decode_fp8_skel
    simp only [k0_part7_eq_skeleton, k0_part8_eq_skeleton, k0_part9_eq_skeleton, k0_part10_eq_skeleton, k0_part11_eq_skeleton, k0_part12_eq_skeleton, k0_part13_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12; obtain rfl := harg13.eq_unread hf13
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [H12]
    · iexists _; isplitr; · ipureintro; exact harg12.read_unread _
      iexact H12
    iexists _; isplitr; · ipureintro; exact harg13.read_unread _
    iexact H13

end Cert.KernelIdeal.Run

end
-- ==== Proof.KernelIdeal.Found.lean ====
/- What the runs of the kernel's body found, in closed form. -/
module

public import proofs.«01_k».proof.Proof.KernelIdeal.Trip
public import proofs.«01_k».proof.Proof.KernelIdeal.CaseA
public import proofs.«01_k».proof.Proof.KernelIdeal.CaseB
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! A word of a scale table, read through its one-word box, is that word of the table. -/

/-- The one-word load at offset 0 reads word 0 of the table. -/
theorem readAt_word0 (a : Memref sig .tc .smem S4 .f32) (ha : a.IsWhole) (x : Vec F S4 .f32) (h : 0 < (Rect.unit (s := S4) ![0] ![1] inb_S4_S1_0).shape.numel) :
    View.readAt (Elt F) a.view (Rect.unit (s := S4) ![0] ![1] inb_S4_S1_0).toLoadRect (ha.unread x) (Shape.Idx.first h) = word x 0 := by
  rw [View.readAt_eq_ld, ha.read_unread]
  exact congrArg x (funext fun d => match d with | ⟨0, _⟩ => rfl)

/-- The one-word load at offset 1 reads word 1 of the table. -/
theorem readAt_word1 (a : Memref sig .tc .smem S4 .f32) (ha : a.IsWhole) (x : Vec F S4 .f32) (h : 0 < (Rect.unit (s := S4) ![1] ![1] inb_S4_S1_1).shape.numel) :
    View.readAt (Elt F) a.view (Rect.unit (s := S4) ![1] ![1] inb_S4_S1_1).toLoadRect (ha.unread x) (Shape.Idx.first h) = word x 1 := by
  rw [View.readAt_eq_ld, ha.read_unread]
  exact congrArg x (funext fun d => match d with | ⟨0, _⟩ => rfl)

/-- The one-word load at offset 2 reads word 2 of the table. -/
theorem readAt_word2 (a : Memref sig .tc .smem S4 .f32) (ha : a.IsWhole) (x : Vec F S4 .f32) (h : 0 < (Rect.unit (s := S4) ![2] ![1] inb_S4_S1_2).shape.numel) :
    View.readAt (Elt F) a.view (Rect.unit (s := S4) ![2] ![1] inb_S4_S1_2).toLoadRect (ha.unread x) (Shape.Idx.first h) = word x 2 := by
  rw [View.readAt_eq_ld, ha.read_unread]
  exact congrArg x (funext fun d => match d with | ⟨0, _⟩ => rfl)

/-- The one-word load at offset 3 reads word 3 of the table. -/
theorem readAt_word3 (a : Memref sig .tc .smem S4 .f32) (ha : a.IsWhole) (x : Vec F S4 .f32) (h : 0 < (Rect.unit (s := S4) ![3] ![1] inb_S4_S1_3).shape.numel) :
    View.readAt (Elt F) a.view (Rect.unit (s := S4) ![3] ![1] inb_S4_S1_3).toLoadRect (ha.unread x) (Shape.Idx.first h) = word x 3 := by
  rw [View.readAt_eq_ld, ha.read_unread]
  exact congrArg x (funext fun d => match d with | ⟨0, _⟩ => rfl)

/-- A load of a whole buffer reads its contents. -/
theorem readAt_whole {sp : Space} {S : Shape} {e : EltTy} (a : Memref sig .tc sp S e) (ha : a.IsWhole) (x : Vec F S e) {off : Fin S.rank → ℕ} (h : off = fun _ => 0)
    (inb : ∀ d, off d + S.size d ≤ S.size d) : View.readAt (Elt F) a.view (Rect.unit off S.size inb).toLoadRect (ha.unread x) = x := by
  rw [View.readAt_eq_ld, ha.read_unread]
  exact View.ld_unit_zero h inb x

/-- A load of a whole buffer the run itself wrote reads what the pieces leave. -/
theorem readCov_whole {sp : Space} {S : Shape} {e : EltTy} (v : View sig .tc sp S e) (L : List (View.Piece (Elt F) S e)) {off : Fin S.rank → ℕ} (h : off = fun _ => 0)
    (inb : ∀ d, off d + S.size d ≤ S.size d) : v.readCov L (Rect.unit off S.size inb).toLoadRect = View.canon L := by
  rw [View.readCov_eq_canon']
  exact View.ld_unit_zero h inb (View.canon L)

/-- These offsets are all zero. -/
theorem off2_zero : (![0, 0] : Fin 2 → ℕ) = fun _ => 0 := by decide
/-- These offsets are all zero. -/
theorem off3_zero : (![0, 0, 0] : Fin 3 → ℕ) = fun _ => 0 := by decide

/-- The second loop after the first: its scores are the blocks the first loop stored. -/
theorem st2_after1 (𝒱 : Variants) (c : Dev nD) (bd : Option 𝒱.V) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (v34 : FVec F S16x128 .bf16) (v79 : FVec F S64x256 .bf16) (v81 : FVec F S32x128 .f32) (v108 : IVec S8x128 1) (v125 : IVec S8x128 32) (v126 : FVec F S8x128 .f32) (v128 : IVec S8x128 1) (X_arg6 : BufTy.Contents (Elt F) arg6.view.ty)  (init : FVec F S8x128 .f32) (v69 : FVec F S16x128 .bf16) (v218 : FVec F S8x128 .f32) (v220 : FVec F S8x128 .f32) (v255 : FVec F S32x128 .bf16) (v256 : Vec F S128x128 .bf16) (cst_89 : FVec F S32x128 .f32) (X_arg7 : BufTy.Contents (Elt F) arg7.view.ty)   (init2 : FVec F S8x128 .f32 × FVec F S64x256 .f32) (f : BufTy.Contents (Elt F) arg11.view.ty) (n1 n2 : ℕ) (h1 : n1 = k0_t1_loop.trips) :
    (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v69 v218 v220 v255 v256 cst_89 X_arg7 (arg11.view.writes (Elt F) f ((st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v34 v79 v81 v108 v125 v126 v128 X_arg6 init n1).2)) init2 n2) = sumAt v69 v218 (arg7.view.read (Elt F) X_arg7) (fun k => scoreBlk v34 v79 (chunkK (arg6.view.read (Elt F) X_arg6) (toTrip1 k))) init2 n2 := by
  subst h1
  exact st2_eq (hs := fun k => st1_load (k := k) ..) ..

/-- At a later point the attention output is `attn` of the blocks and the scratch buffers the first point left. -/
theorem runB_out (c : Dev nD) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (hc0 : ¬ cond0_0 i) (x0 : Vec F S4 .f32) (x1 : Vec F S4 .f32) (x2 : Vec F S1x32x128 .f32) (x3 : Vec F S64x128 .f32) (x4 : Vec F S64x128 .f32) (x5 : Vec F S1x32768x128 .fp8e4m3) (x6 : Vec F S1x32768x128 .fp8e4m3) (xs0 : Vec F S8x32768 .f32) (xs1 : Vec F S128x128 .bf16) (xs2 : Vec F S128x128 .bf16) :
    (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2).1
      = [⟨Rect.unit (s := S1x32x128) ![0, 0, 0] S1x32x128.size inb_S1x32x128_S1x32x128_0_0_0, attn i x0 x1 x2 x5 x6 xs1 xs2⟩] := by
  unfold runB; dsimp only
  sl_unfold_run_names
  dsimp only
  rw [readAt_word0 arg1 harg1 x0, readAt_word1 arg1 harg1 x0, readAt_word2 arg1 harg1 x0, readAt_word3 arg1 harg1 x0, readAt_word0 arg2 harg2 x1, readAt_word1 arg2 harg2 x1, readAt_word2 arg2 harg2 x1, readAt_word3 arg2 harg2 x1, readAt_whole arg3 harg3 x2 off3_zero, readAt_whole arg12 harg12 xs1 off2_zero, readAt_whole arg13 harg13 xs2 off2_zero]
  rw [st2_after1 (h1 := rfl), st1_fst, harg6.read_unread, harg7.read_unread]
  rfl

section first

variable (c : Dev nD) (i : grid0.Coords) (arg1 : Memref sig .tc .smem S4 .f32) (harg1 : arg1.IsWhole) (arg2 : Memref sig .tc .smem S4 .f32) (harg2 : arg2.IsWhole) (arg3 : Memref sig .tc .vmem S1x32x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S1x32768x128 .fp8e4m3) (harg6 : arg6.IsWhole) (arg7 : Memref sig .tc .vmem S1x32768x128 .fp8e4m3) (harg7 : arg7.IsWhole) (arg8 : Memref sig .tc .vmem S1x32x128 .f32) (harg8 : arg8.IsWhole) (arg9 : Memref sig .tc .vmem S64x128 .fp8e4m3) (harg9 : arg9.IsWhole) (arg10 : Memref sig .tc .vmem S64x128 .fp8e4m3) (harg10 : arg10.IsWhole) (arg11 : Memref sig .tc .vmem S8x32768 .f32) (harg11 : arg11.IsWhole) (arg12 : Memref sig .tc .vmem S128x128 .bf16) (harg12 : arg12.IsWhole) (arg13 : Memref sig .tc .vmem S128x128 .bf16) (harg13 : arg13.IsWhole) (hc0 : cond0_0 i) (x0 : Vec F S4 .f32) (x1 : Vec F S4 .f32) (x2 : Vec F S1x32x128 .f32) (x3 : Vec F S64x128 .f32) (x4 : Vec F S64x128 .f32) (x5 : Vec F S1x32768x128 .fp8e4m3) (x6 : Vec F S1x32768x128 .fp8e4m3) (xs0 : Vec F S8x32768 .f32)

/-- At the first point the attention output is `attn` of the blocks and the new tokens it dequantised. -/
theorem runA_out : (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).1
      = [⟨Rect.unit (s := S1x32x128) ![0, 0, 0] S1x32x128.size inb_S1x32x128_S1x32x128_0_0_0, attn i x0 x1 x2 x5 x6 (kNew x0 x3) (vNew x1 x4)⟩] := by
  unfold runA; dsimp only
  sl_unfold_run_names
  dsimp only
  rw [readAt_word0 arg1 harg1 x0, readAt_word1 arg1 harg1 x0, readAt_word2 arg1 harg1 x0, readAt_word3 arg1 harg1 x0, readAt_word0 arg2 harg2 x1, readAt_word1 arg2 harg2 x1, readAt_word2 arg2 harg2 x1, readAt_word3 arg2 harg2 x1, readAt_whole arg3 harg3 x2 off3_zero, readAt_whole arg4 harg4 x3 off2_zero, readAt_whole arg5 harg5 x4 off2_zero]
  rw [readCov_whole arg12.view _ off2_zero, readCov_whole arg13.view _ off2_zero]
  rw [st2_after1 (h1 := rfl), st1_fst, harg6.read_unread, harg7.read_unread]
  rfl

/-- At the first point the key codes are `kCode`. -/
theorem runA_k : (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.1
      = [⟨Rect.unit (s := S64x128) ![0, 0] S64x128.size inb_S64x128_S64x128_0_0, kCode x0 x3⟩] := by
  unfold runA; dsimp only
  sl_unfold_run_names
  dsimp only
  rw [readAt_word0 arg1 harg1 x0, readAt_word1 arg1 harg1 x0, readAt_word2 arg1 harg1 x0, readAt_word3 arg1 harg1 x0, readAt_whole arg4 harg4 x3 off2_zero]
  rfl

/-- At the first point the value codes are `vCode`. -/
theorem runA_v : (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.1
      = [⟨Rect.unit (s := S64x128) ![0, 0] S64x128.size inb_S64x128_S64x128_0_0, vCode x1 x4⟩] := by
  unfold runA; dsimp only
  sl_unfold_run_names
  dsimp only
  rw [readAt_word0 arg2 harg2 x1, readAt_word1 arg2 harg2 x1, readAt_word2 arg2 harg2 x1, readAt_word3 arg2 harg2 x1, readAt_whole arg5 harg5 x4 off2_zero]
  rfl

/-- At the first point the key scratch is left at `kNew`. -/
theorem runA_kNew : View.canon (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.1 = kNew x0 x3 := by
  unfold runA; dsimp only
  sl_unfold_run_names
  dsimp only
  rw [readAt_word0 arg1 harg1 x0, readAt_word1 arg1 harg1 x0, readAt_word2 arg1 harg1 x0, readAt_word3 arg1 harg1 x0, readAt_whole arg4 harg4 x3 off2_zero]
  rfl

/-- At the first point the value scratch is left at `vNew`. -/
theorem runA_vNew : View.canon (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.2.1 = vNew x1 x4 := by
  unfold runA; dsimp only
  sl_unfold_run_names
  dsimp only
  rw [readAt_word0 arg2 harg2 x1, readAt_word1 arg2 harg2 x1, readAt_word2 arg2 harg2 x1, readAt_word3 arg2 harg2 x1, readAt_whole arg5 harg5 x4 off2_zero]
  rfl

/-- The first point's stores fill the key scratch. -/
theorem runA_kNew_cover (y : S128x128.Idx) : ∃ p ∈ (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.1, y ∈ p.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.1 S64x128.size (by sl_kernel_rfl) y

/-- The first point's stores fill the value scratch. -/
theorem runA_vNew_cover (y : S128x128.Idx) : ∃ p ∈ (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.2.1, y ∈ p.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).2.2.2.2.1 S64x128.size (by sl_kernel_rfl) y

end first

end Cert.KernelIdeal.Run

end
-- ==== Proof.KernelIdeal.Sound.lean ====
/- The body's obligation at every grid point and the run of the whole program: what each output holds after each point in
   closed form, the launch, and the frame claim. -/
module

public import proofs.«01_k».proof.Proof.KernelIdeal.Found
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One store of a whole buffer leaves its payload. -/
theorem read_whole_write {sp : Space} {S : Shape} {e : EltTy} (v : View sig .tc sp S e) (f : BufTy.Contents (Elt F) v.ty) (w : Vec F S e) {off : Fin S.rank → ℕ} (h : off = fun _ => 0)
    (inb : ∀ d, off d + S.size d ≤ S.size d) (L : List (View.Piece (Elt F) S e)) (hL : L = [⟨Rect.unit off S.size inb, w⟩]) : v.read (Elt F) (v.writes (Elt F) f L) = w := by
  subst hL
  rw [View.read_writes_eq_canon v f _ fun y => ⟨_, List.mem_singleton_self _, View.mem_set_unit_zero h inb y⟩]
  exact View.canon_unit_zero h inb w

/-! ## What the outputs and the scratch buffers hold -/

/-- The first grid point. -/
abbrev pt0 : Fin cfg0.N := ⟨0, by rw [show cfg0.N = 16 from N_0]; decide⟩

/-- The key scratch after the first point. -/
def kNewAt (c : Dev nD) : Vec F S128x128 .bf16 := kNew (iblk m c 0 pt0) (iblk m c 3 pt0)
/-- The value scratch after the first point. -/
def vNewAt (c : Dev nD) : Vec F S128x128 .bf16 := vNew (iblk m c 1 pt0) (iblk m c 4 pt0)
/-- The key codes after any point. -/
def kCodes (c : Dev nD) : Vec F S64x128 .fp8e4m3 := kCode (iblk m c 0 pt0) (iblk m c 3 pt0)
/-- The value codes after any point. -/
def vCodes (c : Dev nD) : Vec F S64x128 .fp8e4m3 := vCode (iblk m c 1 pt0) (iblk m c 4 pt0)
/-- The attention output's block at a point. -/
def outAt (c : Dev nD) (t : Fin cfg0.N) : Vec F S1x32x128 .f32 :=
  attn (grid0.coords t) (iblk m c 0 t) (iblk m c 1 t) (iblk m c 2 t) (iblk m c 5 t) (iblk m c 6 t) (kNewAt m c) (vNewAt m c)

/-- The region's invariant before position `n`: before the first point the launch's; afterwards the score scratch at
    anything, the key and value scratch at what the first point left, and the generator register at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (kNewAt m c) ∗ owns (c : Thread nD τ) scM0_2 fullShare (vNewAt m c)) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- The invariant after a point. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare (kNewAt m c) ∗ owns (c : Thread nD τ) scM0_2 fullShare (vNewAt m c)) ∗ (∃ r, prngReg c r)) := rfl

/-- The invariant before a point that is not the first. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (kNewAt m c) ∗ owns (c : Thread nD τ) scM0_2 fullShare (vNewAt m c)) ∗ (∃ r, prngReg c r)) := by
  cases n with
  | zero => exact absurd rfl hz
  | succ n => rfl

/-- The proof data of the one pipeline on core `c`: the arrays as the region finds them; after the body at a point each
    input's buffer at its block and each output's at its closed form; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
    | ⟨8, _⟩ => kCodes m c
    | ⟨9, _⟩ => vCodes m c
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at its position. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What the body leaves, window by window. -/
/-- What window 0's buffer holds after the body. -/
theorem after0_0 (c : Dev nD) (t : Fin cfg0.N) : (dats m 0 c).after 0 t = iblk m c 0 t := by dsimp only [dats]
/-- What window 1's buffer holds after the body. -/
theorem after0_1 (c : Dev nD) (t : Fin cfg0.N) : (dats m 0 c).after 1 t = iblk m c 1 t := by dsimp only [dats]
/-- What window 2's buffer holds after the body. -/
theorem after0_2 (c : Dev nD) (t : Fin cfg0.N) : (dats m 0 c).after 2 t = iblk m c 2 t := by dsimp only [dats]
/-- What window 3's buffer holds after the body. -/
theorem after0_3 (c : Dev nD) (t : Fin cfg0.N) : (dats m 0 c).after 3 t = iblk m c 3 t := by dsimp only [dats]
/-- What window 4's buffer holds after the body. -/
theorem after0_4 (c : Dev nD) (t : Fin cfg0.N) : (dats m 0 c).after 4 t = iblk m c 4 t := by dsimp only [dats]
/-- What window 5's buffer holds after the body. -/
theorem after0_5 (c : Dev nD) (t : Fin cfg0.N) : (dats m 0 c).after 5 t = iblk m c 5 t := by dsimp only [dats]
/-- What window 6's buffer holds after the body. -/
theorem after0_6 (c : Dev nD) (t : Fin cfg0.N) : (dats m 0 c).after 6 t = iblk m c 6 t := by dsimp only [dats]
/-- What window 7's buffer holds after the body. -/
theorem after0_7 (c : Dev nD) (t : Fin cfg0.N) : (dats m 0 c).after 7 t = outAt m c t := by dsimp only [dats]
/-- What window 8's buffer holds after the body. -/
theorem after0_8 (c : Dev nD) (t : Fin cfg0.N) : (dats m 0 c).after 8 t = kCodes m c := by dsimp only [dats]
/-- What window 9's buffer holds after the body. -/
theorem after0_9 (c : Dev nD) (t : Fin cfg0.N) : (dats m 0 c).after 9 t = vCodes m c := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Window 1's buffer holds its block before the body. -/
theorem before0_1 (c : Dev nD) (t : Fin cfg0.N) (d) : (dats m 0 c).before 1 t d = iblk m c 1 t :=
  before0_1_of m (dats m 0 c) (A_eq m c 1) (after0_1 m c) t d
/-- Window 2's buffer holds its block before the body. -/
theorem before0_2 (c : Dev nD) (t : Fin cfg0.N) (d) : (dats m 0 c).before 2 t d = iblk m c 2 t :=
  before0_2_of m (dats m 0 c) (A_eq m c 2) (after0_2 m c) t d
/-- Window 3's buffer holds its block before the body. -/
theorem before0_3 (c : Dev nD) (t : Fin cfg0.N) (d) : (dats m 0 c).before 3 t d = iblk m c 3 t :=
  before0_3_of m (dats m 0 c) (A_eq m c 3) (after0_3 m c) t d
/-- Window 4's buffer holds its block before the body. -/
theorem before0_4 (c : Dev nD) (t : Fin cfg0.N) (d) : (dats m 0 c).before 4 t d = iblk m c 4 t :=
  before0_4_of m (dats m 0 c) (A_eq m c 4) (after0_4 m c) t d
/-- Window 5's buffer holds its block before the body. -/
theorem before0_5 (c : Dev nD) (t : Fin cfg0.N) (d) : (dats m 0 c).before 5 t d = iblk m c 5 t :=
  before0_5_of m (dats m 0 c) (A_eq m c 5) (after0_5 m c) t d
/-- Window 6's buffer holds its block before the body. -/
theorem before0_6 (c : Dev nD) (t : Fin cfg0.N) (d) : (dats m 0 c).before 6 t d = iblk m c 6 t :=
  before0_6_of m (dats m 0 c) (A_eq m c 6) (after0_6 m c) t d

/-- A point idle for the codes' buffers is not the first. -/
theorem idle0_pos (t : Fin cfg0.N) (h : (!(k0_cond1 (cfg0.grid.coords t) == 1#1)) = true) : t.val ≠ 0 := fun hz => by
  have hc : k0_cond1 (cfg0.grid.coords t) = 1#1 := (hcond0_0 t).mpr (by omega)
  rw [hc] at h
  exact absurd h (by decide)

/-- At a later point the key codes' buffer still holds what the first point left: no later point but the last writes
    it back, and none stores into it. -/
theorem before0_8 (c : Dev nD) : ∀ (n : ℕ) (t : Fin cfg0.N), t.val = n + 1 → ∀ d, (dats m 0 c).before 8 t d = kCodes m c
  | n, t, hn, d => by
    have hN : t.val < 16 := lt_of_lt_of_eq t.isLt (show cfg0.N = 16 from N_0)
    rw [Dat.before_of_pos (dats m 0 c) 8 t (by omega) rfl, if_neg fun h => by
      have := (flush0_8 _).mp h; dsimp only at this; omega]
    unfold Dat.left
    rcases hi : cfg0.idle 8 (cfg0.grid.coords ⟨t.val - 1, Nat.lt_of_le_of_lt (Nat.sub_le _ _) t.isLt⟩) with _ | _
    · rfl
    · match n with
      | 0 => exact absurd (idle0_pos _ hi) (by dsimp only; omega)
      | n + 1 => exact before0_8 c n _ (by dsimp only; omega) d

/-- What the first point left of the key codes meets the obligation on their buffer at every point. -/
theorem leave0_8 (c : Dev nD) (t : Fin cfg0.N) :
    owns (c : Thread nD τ) (ms0_8 t) fullShare ((dats m 0 c).after 8 t)
      ⊢ (match cfg0.idle 8 (cfg0.grid.coords t) with
        | true =>
          match (cfg0.win 8).flush t with
          | false => iprop(∃ d, owns (c : Thread nD τ) ((cfg0.win 8).stage (cfg0.slots t 8)) fullShare ((dats m 0 c).before 8 t d))
          | true => owns (c : Thread nD τ) ((cfg0.win 8).stage (cfg0.slots t 8)) fullShare ((dats m 0 c).after 8 t)
        | false => owns (c : Thread nD τ) ((cfg0.win 8).stage (cfg0.slots t 8)) fullShare ((dats m 0 c).after 8 t) : sProp 𝕄) := by
  rcases hi : cfg0.idle 8 (cfg0.grid.coords t) with _ | _
  · exact .rfl
  · rcases hf : (cfg0.win 8).flush t with _ | _
    · have hz := idle0_pos t hi
      have e := before0_8 m c (t.val - 1) t (by omega)
      simp only [e, after0_8]
      iintro H
      iexists (kCodes m c)
      iexact H
    · exact .rfl

/-- At a later point the value codes' buffer still holds what the first point left: no later point but the last writes
    it back, and none stores into it. -/
theorem before0_9 (c : Dev nD) : ∀ (n : ℕ) (t : Fin cfg0.N), t.val = n + 1 → ∀ d, (dats m 0 c).before 9 t d = vCodes m c
  | n, t, hn, d => by
    have hN : t.val < 16 := lt_of_lt_of_eq t.isLt (show cfg0.N = 16 from N_0)
    rw [Dat.before_of_pos (dats m 0 c) 9 t (by omega) rfl, if_neg fun h => by
      have := (flush0_9 _).mp h; dsimp only at this; omega]
    unfold Dat.left
    rcases hi : cfg0.idle 9 (cfg0.grid.coords ⟨t.val - 1, Nat.lt_of_le_of_lt (Nat.sub_le _ _) t.isLt⟩) with _ | _
    · rfl
    · match n with
      | 0 => exact absurd (idle0_pos _ hi) (by dsimp only; omega)
      | n + 1 => exact before0_9 c n _ (by dsimp only; omega) d

/-- What the first point left of the value codes meets the obligation on their buffer at every point. -/
theorem leave0_9 (c : Dev nD) (t : Fin cfg0.N) :
    owns (c : Thread nD τ) (ms0_9 t) fullShare ((dats m 0 c).after 9 t)
      ⊢ (match cfg0.idle 9 (cfg0.grid.coords t) with
        | true =>
          match (cfg0.win 9).flush t with
          | false => iprop(∃ d, owns (c : Thread nD τ) ((cfg0.win 9).stage (cfg0.slots t 9)) fullShare ((dats m 0 c).before 9 t d))
          | true => owns (c : Thread nD τ) ((cfg0.win 9).stage (cfg0.slots t 9)) fullShare ((dats m 0 c).after 9 t)
        | false => owns (c : Thread nD τ) ((cfg0.win 9).stage (cfg0.slots t 9)) fullShare ((dats m 0 c).after 9 t) : sProp 𝕄) := by
  rcases hi : cfg0.idle 9 (cfg0.grid.coords t) with _ | _
  · exact .rfl
  · rcases hf : (cfg0.win 9).flush t with _ | _
    · have hz := idle0_pos t hi
      have e := before0_9 m c (t.val - 1) t (by omega)
      simp only [e, after0_9]
      iintro H
      iexists (vCodes m c)
      iexact H
    · exact .rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 9600000 in
/-- The body at any point: at the first the run that takes the branch, at a later one the run that does not. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 16 := lt_of_lt_of_eq t.isLt (show cfg0.N = 16 from N_0)
  by_cases hz : t.val = 0
  · have h0 : t.val % 16 = 0 := by omega
    obtain rfl : t = pt0 := Fin.ext hz
    rw [PhiS_castSucc m c pt0, PhiS_zero m c _ _ hz, PhiA0_eq]
    iintro ⟨⟨⟨⟨%xs0, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords pt0) _ _ _ _ _ _ _ _ _ _ _ _ _ _ _ _ _ _ _ _ _ _ _ _ _ _ ((hcond0_0 pt0).mpr h0) (iblk m c 0 pt0) (iblk m c 1 pt0) (iblk m c 2 pt0) (iblk m c 3 pt0) (iblk m c 4 pt0) (iblk m c 5 pt0) (iblk m c 6 pt0) xs0).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, ⟨%e7, H7⟩, ⟨%e8, H8⟩, ⟨%e9, H9⟩, HS0, ⟨%es1, HS1⟩, ⟨%es2, HS2⟩⟩
    isplitl [HS0 HS1 HS2 Hg]
    · isplitl [HS0 HS1 HS2]
      · isplitl [HS0]
        · iexact HS0
        isplitl [HS1]
        · unfold owns; iexists _; isplitr
          swap; · iexact HS1
          ipureintro; exact (View.read_writes_eq_canon _ _ _ (fun y => runA_kNew_cover (y := y) ..)).trans (runA_kNew ..)
        unfold owns; iexists _; isplitr
        swap; · iexact HS2
        ipureintro; exact (View.read_writes_eq_canon _ _ _ (fun y => runA_vNew_cover (y := y) ..)).trans (runA_vNew ..)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact read_whole_write _ _ _ off3_zero _ _ (runA_out ..)
    isplitl [H8]
    · unfold owns; iexists _; isplitr
      swap; · iexact H8
      ipureintro; exact read_whole_write _ _ _ off2_zero _ _ (runA_k ..)
    unfold owns; iexists _; isplitr
    swap; · iexact H9
    ipureintro; exact read_whole_write _ _ _ off2_zero _ _ (runA_v ..)
  · have h0 : ¬ t.val % 16 = 0 := by omega
    rw [PhiS_castSucc m c t, PhiS_pos m c _ _ hz]
    simp only [before0_8 m c (t.val - 1) t (by omega), before0_9 m c (t.val - 1) t (by omega)]
    iintro ⟨⟨⟨⟨%xs0, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) xs0 (kNewAt m c) (vNewAt m c)).2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, ⟨%e7, H7⟩, H8, H9, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact read_whole_write _ _ _ off3_zero _ _ (runB_out ..)
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => by
    unfold bodyPost
    repeat' apply Idealize.SL.BI.sep_mono
    all_goals first | exact leave0_8 m c t | exact leave0_9 m c t | exact Idealize.SL.BI.Entails.refl _

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame claim at any values: every run ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Run

end
-- ==== Proof.Value.KRead.lean ====
/- What the kernel's run leaves in its result arrays. -/
module

public import proofs.«01_k».proof.Proof.KernelIdeal.Sound
public import Idealize.ShloMosaic.Lib.Claim
public import Idealize.ShloMosaic.Lib.Pipeline.Value
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic Idealize.SL Idealize.SL.Sem

/-- The number of a grid point is its only coordinate. -/
theorem coords_val : ∀ t : Fin cfg0.N, (grid0.coords t 0).val = t.val := (by decide +kernel : ∀ t : Fin grid0.N, (grid0.coords t 0).val = t.val)

/-- There are 16 grid points. -/
theorem pt_lt (t : Fin cfg0.N) : t.val < 16 := lt_of_lt_of_eq t.isLt (show cfg0.N = 16 from N_0)

/-! The scales, the new rows and the codes come as whole arrays at every grid point. -/

/-- Where window 0's block starts. -/
theorem idx0 : ∀ t : Fin cfg0.N, win0_0.index t (0 : Fin 1) = 0 := (by decide +kernel : ∀ t : Fin grid0.N, _)
/-- An entry of window 0's block is the same entry of the array. -/
theorem emb0 (t : Fin cfg0.N) (j : S4.Idx) : ((cfg0.win 0).blk t).view.emb j = j := by
  have e0 := idx0 t
  funext a; apply Fin.ext
  match a with
  | ⟨0, _⟩ => show win0_0.index t (0 : Fin 1) * 4 + 1 * (j 0).val = (j 0).val; omega

/-- Where window 1's block starts. -/
theorem idx1 : ∀ t : Fin cfg0.N, win0_1.index t (0 : Fin 1) = 0 := (by decide +kernel : ∀ t : Fin grid0.N, _)
/-- An entry of window 1's block is the same entry of the array. -/
theorem emb1 (t : Fin cfg0.N) (j : S4.Idx) : ((cfg0.win 1).blk t).view.emb j = j := by
  have e0 := idx1 t
  funext a; apply Fin.ext
  match a with
  | ⟨0, _⟩ => show win0_1.index t (0 : Fin 1) * 4 + 1 * (j 0).val = (j 0).val; omega

/-- Where window 3's block starts. -/
theorem idx3 : ∀ t : Fin cfg0.N, win0_3.index t (0 : Fin 2) = 0 ∧ win0_3.index t (1 : Fin 2) = 0 := (by decide +kernel : ∀ t : Fin grid0.N, _)
/-- An entry of window 3's block is the same entry of the array. -/
theorem emb3 (t : Fin cfg0.N) (j : S64x128.Idx) : ((cfg0.win 3).blk t).view.emb j = j := by
  obtain ⟨e0, e1⟩ := idx3 t
  funext a; apply Fin.ext
  match a with
  | ⟨0, _⟩ => show win0_3.index t (0 : Fin 2) * 64 + 1 * (j 0).val = (j 0).val; omega
  | ⟨1, _⟩ => show win0_3.index t (1 : Fin 2) * 128 + 1 * (j 1).val = (j 1).val; omega

/-- Where window 4's block starts. -/
theorem idx4 : ∀ t : Fin cfg0.N, win0_4.index t (0 : Fin 2) = 0 ∧ win0_4.index t (1 : Fin 2) = 0 := (by decide +kernel : ∀ t : Fin grid0.N, _)
/-- An entry of window 4's block is the same entry of the array. -/
theorem emb4 (t : Fin cfg0.N) (j : S64x128.Idx) : ((cfg0.win 4).blk t).view.emb j = j := by
  obtain ⟨e0, e1⟩ := idx4 t
  funext a; apply Fin.ext
  match a with
  | ⟨0, _⟩ => show win0_4.index t (0 : Fin 2) * 64 + 1 * (j 0).val = (j 0).val; omega
  | ⟨1, _⟩ => show win0_4.index t (1 : Fin 2) * 128 + 1 * (j 1).val = (j 1).val; omega

/-- Where window 8's block starts. -/
theorem idx8 : ∀ t : Fin cfg0.N, win0_8.index t (0 : Fin 2) = 0 ∧ win0_8.index t (1 : Fin 2) = 0 := (by decide +kernel : ∀ t : Fin grid0.N, _)
/-- An entry of window 8's block is the same entry of the array. -/
theorem emb8 (t : Fin cfg0.N) (j : S64x128.Idx) : ((cfg0.win 8).blk t).view.emb j = j := by
  obtain ⟨e0, e1⟩ := idx8 t
  funext a; apply Fin.ext
  match a with
  | ⟨0, _⟩ => show win0_8.index t (0 : Fin 2) * 64 + 1 * (j 0).val = (j 0).val; omega
  | ⟨1, _⟩ => show win0_8.index t (1 : Fin 2) * 128 + 1 * (j 1).val = (j 1).val; omega

/-- Where window 9's block starts. -/
theorem idx9 : ∀ t : Fin cfg0.N, win0_9.index t (0 : Fin 2) = 0 ∧ win0_9.index t (1 : Fin 2) = 0 := (by decide +kernel : ∀ t : Fin grid0.N, _)
/-- An entry of window 9's block is the same entry of the array. -/
theorem emb9 (t : Fin cfg0.N) (j : S64x128.Idx) : ((cfg0.win 9).blk t).view.emb j = j := by
  obtain ⟨e0, e1⟩ := idx9 t
  funext a; apply Fin.ext
  match a with
  | ⟨0, _⟩ => show win0_9.index t (0 : Fin 2) * 64 + 1 * (j 0).val = (j 0).val; omega
  | ⟨1, _⟩ => show win0_9.index t (1 : Fin 2) * 128 + 1 * (j 1).val = (j 1).val; omega

/-! The queries, the caches and the attention come one sequence of the batch at a grid point. -/

/-- Where window 2's block starts. -/
theorem idx2 : ∀ t : Fin cfg0.N, win0_2.index t (0 : Fin 3) = t.val ∧ win0_2.index t (1 : Fin 3) = 0 ∧ win0_2.index t (2 : Fin 3) = 0 := (by decide +kernel : ∀ t : Fin grid0.N, _)
/-- An entry of window 2's block is the entry at the same row and column of that sequence. -/
theorem emb2 (t : Fin cfg0.N) (j : S1x32x128.Idx) : ((cfg0.win 2).blk t).view.emb j = ix3 ⟨t.val, pt_lt t⟩ (j 1) (j 2) := by
  obtain ⟨e0, e1, e2⟩ := idx2 t
  have h0 : (j 0).val < 1 := (j 0).isLt
  funext a; apply Fin.ext
  match a with
  | ⟨0, _⟩ => show win0_2.index t (0 : Fin 3) * 1 + 1 * (j 0).val = t.val; omega
  | ⟨1, _⟩ => show win0_2.index t (1 : Fin 3) * 32 + 1 * (j 1).val = (j 1).val; omega
  | ⟨2, _⟩ => show win0_2.index t (2 : Fin 3) * 128 + 1 * (j 2).val = (j 2).val; omega

/-- Where window 5's block starts. -/
theorem idx5 : ∀ t : Fin cfg0.N, win0_5.index t (0 : Fin 3) = t.val ∧ win0_5.index t (1 : Fin 3) = 0 ∧ win0_5.index t (2 : Fin 3) = 0 := (by decide +kernel : ∀ t : Fin grid0.N, _)
/-- An entry of window 5's block is the entry at the same row and column of that sequence. -/
theorem emb5 (t : Fin cfg0.N) (j : S1x32768x128.Idx) : ((cfg0.win 5).blk t).view.emb j = ix3 ⟨t.val, pt_lt t⟩ (j 1) (j 2) := by
  obtain ⟨e0, e1, e2⟩ := idx5 t
  have h0 : (j 0).val < 1 := (j 0).isLt
  funext a; apply Fin.ext
  match a with
  | ⟨0, _⟩ => show win0_5.index t (0 : Fin 3) * 1 + 1 * (j 0).val = t.val; omega
  | ⟨1, _⟩ => show win0_5.index t (1 : Fin 3) * 32768 + 1 * (j 1).val = (j 1).val; omega
  | ⟨2, _⟩ => show win0_5.index t (2 : Fin 3) * 128 + 1 * (j 2).val = (j 2).val; omega

/-- Where window 6's block starts. -/
theorem idx6 : ∀ t : Fin cfg0.N, win0_6.index t (0 : Fin 3) = t.val ∧ win0_6.index t (1 : Fin 3) = 0 ∧ win0_6.index t (2 : Fin 3) = 0 := (by decide +kernel : ∀ t : Fin grid0.N, _)
/-- An entry of window 6's block is the entry at the same row and column of that sequence. -/
theorem emb6 (t : Fin cfg0.N) (j : S1x32768x128.Idx) : ((cfg0.win 6).blk t).view.emb j = ix3 ⟨t.val, pt_lt t⟩ (j 1) (j 2) := by
  obtain ⟨e0, e1, e2⟩ := idx6 t
  have h0 : (j 0).val < 1 := (j 0).isLt
  funext a; apply Fin.ext
  match a with
  | ⟨0, _⟩ => show win0_6.index t (0 : Fin 3) * 1 + 1 * (j 0).val = t.val; omega
  | ⟨1, _⟩ => show win0_6.index t (1 : Fin 3) * 32768 + 1 * (j 1).val = (j 1).val; omega
  | ⟨2, _⟩ => show win0_6.index t (2 : Fin 3) * 128 + 1 * (j 2).val = (j 2).val; omega

/-- Where window 7's block starts. -/
theorem idx7 : ∀ t : Fin cfg0.N, win0_7.index t (0 : Fin 3) = t.val ∧ win0_7.index t (1 : Fin 3) = 0 ∧ win0_7.index t (2 : Fin 3) = 0 := (by decide +kernel : ∀ t : Fin grid0.N, _)
/-- An entry of window 7's block is the entry at the same row and column of that sequence. -/
theorem emb7 (t : Fin cfg0.N) (j : S1x32x128.Idx) : ((cfg0.win 7).blk t).view.emb j = ix3 ⟨t.val, pt_lt t⟩ (j 1) (j 2) := by
  obtain ⟨e0, e1, e2⟩ := idx7 t
  have h0 : (j 0).val < 1 := (j 0).isLt
  funext a; apply Fin.ext
  match a with
  | ⟨0, _⟩ => show win0_7.index t (0 : Fin 3) * 1 + 1 * (j 0).val = t.val; omega
  | ⟨1, _⟩ => show win0_7.index t (1 : Fin 3) * 32 + 1 * (j 1).val = (j 1).val; omega
  | ⟨2, _⟩ => show win0_7.index t (2 : Fin 3) * 128 + 1 * (j 2).val = (j 2).val; omega

variable (m : (ℓ : Loc nD τ sig) → Buf (Elt Ideal) ℓ) (ρ : Dev nD → PrngReg)

/-! What the arrays hold when the kernel starts: the arguments, reshaped. -/

/-- The queries, one row per head. -/
theorem V_main_v0 (c : Dev nD) : V m c main_v0 = shapeCast S16x32x128 (m ((c : Thread nD τ).loc main_arg0)) shapeCasts_S16x1x4096_S16x32x128 := by
  show StableHlo.after hostOps0 _ (Proc.devRef .tc main_v0) = _
  after_results
  rfl

/-- The new keys, one row per sequence and head. -/
theorem V_main_v1 (c : Dev nD) : V m c main_v1 = shapeCast S64x128 (m ((c : Thread nD τ).loc main_arg1)) shapeCasts_S16x1x4x128_S64x128 := by
  show StableHlo.after hostOps0 _ (Proc.devRef .tc main_v1) = _
  after_results
  rfl

/-- The new values, one row per sequence and head. -/
theorem V_main_v2 (c : Dev nD) : V m c main_v2 = shapeCast S64x128 (m ((c : Thread nD τ).loc main_arg2)) shapeCasts_S16x1x4x128_S64x128 := by
  show StableHlo.after hostOps0 _ (Proc.devRef .tc main_v2) = _
  after_results
  rfl

/-- The cached keys, one row per token and head. -/
theorem V_main_v3 (c : Dev nD) : V m c main_v3 = shapeCast S16x32768x128 (m ((c : Thread nD τ).loc main_arg3)) shapeCasts_S16x8192x4x128_S16x32768x128 := by
  show StableHlo.after hostOps0 _ (Proc.devRef .tc main_v3) = _
  after_results
  rfl

/-- The cached values, one row per token and head. -/
theorem V_main_v4 (c : Dev nD) : V m c main_v4 = shapeCast S16x32768x128 (m ((c : Thread nD τ).loc main_arg5)) shapeCasts_S16x8192x4x128_S16x32768x128 := by
  show StableHlo.after hostOps0 _ (Proc.devRef .tc main_v4) = _
  after_results
  rfl

/-! What each grid point is given. -/

/-- The key scales. -/
theorem iblk0_eq (c : Dev nD) (t : Fin cfg0.N) : iblk m c 0 t = (m ((c : Thread nD τ).loc main_arg4)) := by
  rw [← V_main_arg4 m c]
  funext j; show V m c main_arg4 (((cfg0.win 0).blk t).view.emb j) = V m c main_arg4 j; rw [emb0]

/-- The value scales. -/
theorem iblk1_eq (c : Dev nD) (t : Fin cfg0.N) : iblk m c 1 t = (m ((c : Thread nD τ).loc main_arg6)) := by
  rw [← V_main_arg6 m c]
  funext j; show V m c main_arg6 (((cfg0.win 1).blk t).view.emb j) = V m c main_arg6 j; rw [emb1]

/-- The new keys given at a point. -/
theorem iblk3_eq (c : Dev nD) (t : Fin cfg0.N) : iblk m c 3 t = (shapeCast S64x128 (m ((c : Thread nD τ).loc main_arg1)) shapeCasts_S16x1x4x128_S64x128) := by
  rw [← V_main_v1 m c]
  funext j; show V m c main_v1 (((cfg0.win 3).blk t).view.emb j) = V m c main_v1 j; rw [emb3]

/-- The new values given at a point. -/
theorem iblk4_eq (c : Dev nD) (t : Fin cfg0.N) : iblk m c 4 t = (shapeCast S64x128 (m ((c : Thread nD τ).loc main_arg2)) shapeCasts_S16x1x4x128_S64x128) := by
  rw [← V_main_v2 m c]
  funext j; show V m c main_v2 (((cfg0.win 4).blk t).view.emb j) = V m c main_v2 j; rw [emb4]

/-- The queries given at a point. -/
theorem iblk2_eq (c : Dev nD) (t : Fin cfg0.N) (j : S1x32x128.Idx) : iblk m c 2 t j = (shapeCast S16x32x128 (m ((c : Thread nD τ).loc main_arg0)) shapeCasts_S16x1x4096_S16x32x128) (ix3 ⟨t.val, pt_lt t⟩ (j 1) (j 2)) := by
  rw [← V_main_v0 m c]
  show V m c main_v0 (((cfg0.win 2).blk t).view.emb j) = _; rw [emb2]; rfl

/-- The cached keys given at a point. -/
theorem iblk5_eq (c : Dev nD) (t : Fin cfg0.N) (j : S1x32768x128.Idx) : iblk m c 5 t j = (shapeCast S16x32768x128 (m ((c : Thread nD τ).loc main_arg3)) shapeCasts_S16x8192x4x128_S16x32768x128) (ix3 ⟨t.val, pt_lt t⟩ (j 1) (j 2)) := by
  rw [← V_main_v3 m c]
  show V m c main_v3 (((cfg0.win 5).blk t).view.emb j) = _; rw [emb5]; rfl

/-- The cached values given at a point. -/
theorem iblk6_eq (c : Dev nD) (t : Fin cfg0.N) (j : S1x32768x128.Idx) : iblk m c 6 t j = (shapeCast S16x32768x128 (m ((c : Thread nD τ).loc main_arg5)) shapeCasts_S16x8192x4x128_S16x32768x128) (ix3 ⟨t.val, pt_lt t⟩ (j 1) (j 2)) := by
  rw [← V_main_v4 m c]
  show V m c main_v4 (((cfg0.win 6).blk t).view.emb j) = _; rw [emb6]; rfl

/-- The grid point of a sequence of the batch. -/
def ptOf (b : Fin 16) : Fin cfg0.N := ⟨b.val, by rw [show cfg0.N = 16 from N_0]; exact b.isLt⟩

/-- The attention of the whole batch: each sequence's is what its grid point leaves. -/
def yArr (c : Dev nD) : FVec Ideal S16x32x128 .f32 := fun i => outAt m c (ptOf (i 0)) (ix3 0 (i 1) (i 2))

/-- After the last grid point the first result array holds the whole batch's attention. -/
theorem final7 (c : Dev nD) : (dats m 0 c).arrAt 7 cfg0.N = yArr m c := by
  refine (dats m 0 c).arrAt_eq_of_cover 7 (yArr m c) (fun t _ => ?_) (fun i => ⟨ptOf (i 0), flush0_7 _, by
    have h := ((cfg0.win 7).blk (ptOf (i 0))).view.emb_mem_set (ix3 0 (i 1) (i 2)); rw [emb7] at h
    have e : i = ix3 ⟨(ptOf (i 0)).val, pt_lt _⟩ (i 1) (i 2) := by
      funext a; match a with | ⟨0, _⟩ => rfl | ⟨1, _⟩ => rfl | ⟨2, _⟩ => rfl
    rw [e]; exact h⟩)
  funext j
  show (dats m 0 c).after 7 t j = yArr m c (((cfg0.win 7).blk t).view.emb j)
  rw [emb7, after0_7]
  have h0 : (j 0).val < 1 := (j 0).isLt
  show outAt m c t j = outAt m c t (ix3 0 (j 1) (j 2))
  congr 1
  funext a; apply Fin.ext
  match a with
  | ⟨0, _⟩ => show (j 0).val = 0; omega
  | ⟨1, _⟩ => rfl
  | ⟨2, _⟩ => rfl

/-- After the last grid point the key codes' array holds the codes. -/
theorem final8 (c : Dev nD) : (dats m 0 c).arrAt 8 cfg0.N = kCodes m c := by
  refine (dats m 0 c).arrAt_eq_of_cover 8 (kCodes m c) (fun t _ => ?_) (fun i => ⟨ptOf 15, (flush0_8 _).mpr rfl, by
    have h := ((cfg0.win 8).blk (ptOf 15)).view.emb_mem_set i; rwa [emb8] at h⟩)
  funext j
  show (dats m 0 c).after 8 t j = kCodes m c (((cfg0.win 8).blk t).view.emb j)
  rw [emb8, after0_8]

/-- After the last grid point the value codes' array holds the codes. -/
theorem final9 (c : Dev nD) : (dats m 0 c).arrAt 9 cfg0.N = vCodes m c := by
  refine (dats m 0 c).arrAt_eq_of_cover 9 (vCodes m c) (fun t _ => ?_) (fun i => ⟨ptOf 15, (flush0_9 _).mpr rfl, by
    have h := ((cfg0.win 9).blk (ptOf 15)).view.emb_mem_set i; rwa [emb9] at h⟩)
  funext j
  show (dats m 0 c).after 9 t j = vCodes m c (((cfg0.win 9).blk t).view.emb j)
  rw [emb9, after0_9]

/-- After the lines that follow the region, the first result holds the attention with the heads joined. -/
theorem tail_v6 (c : Dev nD) : Pipeline.afterTail₀ cfgs (dats m) 0 (V0 m) [hostOps1] c main_v6 = shapeCast S16x1x4096 (yArr m c) shapeCasts_S16x32x128_S16x1x4096 := by
  unfold Pipeline.afterTail₀
  show StableHlo.after hostOps1 _ (Proc.devRef .tc main_v6) = _
  after_results
  have e := Pipeline.withArrays_arr (cfgs 0).spec launch0.win.arr_inj c (V0 m c) (fun w => (dats m 0 c).arrAt w (cfgs 0).N) 7
  rw [← final7 m c]
  exact congrArg (fun y => shapeCast S16x1x4096 y shapeCasts_S16x32x128_S16x1x4096) e

/-- After the lines that follow the region, the second result holds the key codes, one row per sequence and head. -/
theorem tail_v7 (c : Dev nD) : Pipeline.afterTail₀ cfgs (dats m) 0 (V0 m) [hostOps1] c main_v7 = shapeCast S16x1x4x128 (kCodes m c) shapeCasts_S64x128_S16x1x4x128 := by
  unfold Pipeline.afterTail₀
  show StableHlo.after hostOps1 _ (Proc.devRef .tc main_v7) = _
  after_results
  have e := Pipeline.withArrays_arr (cfgs 0).spec launch0.win.arr_inj c (V0 m c) (fun w => (dats m 0 c).arrAt w (cfgs 0).N) 8
  rw [← final8 m c]
  exact congrArg (fun y => shapeCast S16x1x4x128 y shapeCasts_S64x128_S16x1x4x128) e

/-- After the lines that follow the region, the third result holds the value codes, one row per sequence and head. -/
theorem tail_v8 (c : Dev nD) : Pipeline.afterTail₀ cfgs (dats m) 0 (V0 m) [hostOps1] c main_v8 = shapeCast S16x1x4x128 (vCodes m c) shapeCasts_S64x128_S16x1x4x128 := by
  unfold Pipeline.afterTail₀
  show StableHlo.after hostOps1 _ (Proc.devRef .tc main_v8) = _
  after_results
  have e := Pipeline.withArrays_arr (cfgs 0).spec launch0.win.arr_inj c (V0 m c) (fun w => (dats m 0 c).arrAt w (cfgs 0).N) 9
  rw [← final9 m c]
  exact congrArg (fun y => shapeCast S16x1x4x128 y shapeCasts_S64x128_S16x1x4x128) e

/-- Every run of the kernel leaves its results at these values. -/
theorem run : θ_run defs (onTc (τ := τ) (main (F := Ideal))) ⟨m, fun _ => 0, ρ⟩ (fun r => ∀ c : Dev nD,
      r.2.mem ((c.tc : Thread nD τ).loc main_v6) = shapeCast S16x1x4096 (yArr m c) shapeCasts_S16x32x128_S16x1x4096
      ∧ r.2.mem ((c.tc : Thread nD τ).loc main_v7) = shapeCast S16x1x4x128 (kCodes m c) shapeCasts_S64x128_S16x1x4x128
      ∧ r.2.mem ((c.tc : Thread nD τ).loc main_v8) = shapeCast S16x1x4x128 (vCodes m c) shapeCasts_S64x128_S16x1x4x128) :=
  (θ_run defs _ _).mono (fun r h c => ⟨
    ((h c).2 main_v6 (Pipeline.mem_restRefs_of main_v6 (by decide) (by decide))).trans (tail_v6 m c),
    ((h c).2 main_v7 (Pipeline.mem_restRefs_of main_v7 (by decide) (by decide))).trans (tail_v7 m c),
    ((h c).2 main_v8 (Pipeline.mem_restRefs_of main_v8 (by decide) (by decide))).trans (tail_v8 m c)⟩) (run_main m ρ)

end Cert.KernelIdeal.Run

end
-- ==== Proof.Value.Words.lean ====
/- The words the kernel's lane masks are made of: the position modulo four and its quotient by four, for the positions
   that occur, and a choice by such a word. -/
module

public import Idealize.ShloMosaic.Lib.Pointwise

@[expose] public section

set_option maxRecDepth 16384

noncomputable section

namespace Cert.Attn

open Idealize.ShloMosaic

/-- The literal four, as the program guards its own divisor. -/
theorem four_word : Scalar.select (Scalar.cmpi .eq 4#32 0#32) 1#32 4#32 = 4#32 := rfl

/-- Four is not negative. -/
theorem four_nonneg : Scalar.cmpi .slt 4#32 0#32 = 0#1 := rfl

/-- The remainder of a row number by four, as the words compute it. -/
theorem mod4_fin : ∀ n : Fin 1024,
    Scalar.select (IntOp.andi (IntOp.xori (IntOp.cmpi .slt (IntOp.remsi .vector (BitVec.ofNat 32 n.val) 4#32) 0#32) 0#1)
        (IntOp.cmpi .ne (IntOp.remsi .vector (BitVec.ofNat 32 n.val) 4#32) 0#32))
      (IntOp.addi (IntOp.remsi .vector (BitVec.ofNat 32 n.val) 4#32) 4#32)
      (IntOp.remsi .vector (BitVec.ofNat 32 n.val) 4#32) = BitVec.ofNat 32 (n.val % 4) := by
  decide +kernel

/-- The word of a position modulo four, the sign of the remainder corrected. -/
theorem mod4_word (n : ℕ) (h : n < 1024) :
    Scalar.select (IntOp.andi (IntOp.xori (IntOp.cmpi .slt (IntOp.remsi .vector (BitVec.ofNat 32 n) 4#32) 0#32) 0#1)
        (IntOp.cmpi .ne (IntOp.remsi .vector (BitVec.ofNat 32 n) 4#32) 0#32))
      (IntOp.addi (IntOp.remsi .vector (BitVec.ofNat 32 n) 4#32) 4#32)
      (IntOp.remsi .vector (BitVec.ofNat 32 n) 4#32) = BitVec.ofNat 32 (n % 4) := mod4_fin ⟨n, h⟩

/-- A choice by whether a word below four is zero. -/
theorem pick0 {α : Type} (n : ℕ) (a b : α) :
    Scalar.select (IntOp.cmpi .eq (BitVec.ofNat 32 (n % 4)) 0#32) a b = if n % 4 = 0 then a else b := by
  have : n % 4 < 4 := Nat.mod_lt _ (by decide)
  generalize n % 4 = k at *
  interval_cases k <;> rfl

/-- A choice by whether a word below four is one. -/
theorem pick1 {α : Type} (n : ℕ) (a b : α) :
    Scalar.select (IntOp.cmpi .eq (BitVec.ofNat 32 (n % 4)) 1#32) a b = if n % 4 = 1 then a else b := by
  have : n % 4 < 4 := Nat.mod_lt _ (by decide)
  generalize n % 4 = k at *
  interval_cases k <;> rfl

/-- A choice by whether a word below four is two. -/
theorem pick2 {α : Type} (n : ℕ) (a b : α) :
    Scalar.select (IntOp.cmpi .eq (BitVec.ofNat 32 (n % 4)) 2#32) a b = if n % 4 = 2 then a else b := by
  have : n % 4 < 4 := Nat.mod_lt _ (by decide)
  generalize n % 4 = k at *
  interval_cases k <;> rfl

/-- A choice by whether a word below four is three. -/
theorem pick3 {α : Type} (n : ℕ) (a b : α) :
    Scalar.select (IntOp.cmpi .eq (BitVec.ofNat 32 (n % 4)) 3#32) a b = if n % 4 = 3 then a else b := by
  have : n % 4 < 4 := Nat.mod_lt _ (by decide)
  generalize n % 4 = k at *
  interval_cases k <;> rfl

/-- The bits of negative infinity. -/
theorem negInf : Ideal.ofBits .f32 0xFF800000#32 = (⊥ : EReal) := by
  simp [Ideal.ofBits, Ideal.ieee]

end Cert.Attn

end
-- ==== Proof.Value.Scores.lean ====
/- The kernel's codes, dequantisation scales and scores over exact arithmetic, entry by entry. -/
module

public import proofs.«01_k».proof.Proof.KernelIdeal.Closed
public import proofs.«01_k».proof.Proof.Value.Words

@[expose] public section

set_option maxRecDepth 16384

noncomputable section

namespace Cert.KernelIdeal.Run

open Cert.KernelIdeal Cert.KernelIdeal.Gen Cert.Attn
open Idealize.ShloMosaic

/-- Row `r` of a block of keys has the scale of head `r % 4`. -/
theorem kScale_apply (x0 : Vec Ideal S4 .f32) (r : Fin 16) (d : Fin 128) :
    kScale x0 (ix2 r d) = word x0 ⟨r.val % 4, Nat.mod_lt _ (by decide)⟩ := by
  pointwise [kScale, k0_pay24]
  simp (disch := omega) only [four_word, four_nonneg, mod4_word, pick0, pick1, pick2, pick3]
  have h : r.val % 4 = 0 ∨ r.val % 4 = 1 ∨ r.val % 4 = 2 ∨ r.val % 4 = 3 := by omega
  rcases h with h | h | h | h <;> simp only [h] <;> rfl

/-- Row `r` of a block of values has the scale of head `r % 4`. -/
theorem vScale_apply (x0 : Vec Ideal S4 .f32) (r : Fin 16) (d : Fin 128) :
    vScale x0 (ix2 r d) = word x0 ⟨r.val % 4, Nat.mod_lt _ (by decide)⟩ := by
  pointwise [vScale, k0_pay27, k0_pay25, k0_pay26]
  simp (disch := omega) only [four_word, four_nonneg, mod4_word, pick0, pick1, pick2, pick3]
  have h : r.val % 4 = 0 ∨ r.val % 4 = 1 ∨ r.val % 4 = 2 ∨ r.val % 4 = 3 := by omega
  rcases h with h | h | h | h <;> simp only [h] <;> rfl

/-- A number divided by a scale, clipped to the codes' range. -/
def quant (x s : EReal) : EReal := min (Ideal.ofBits .f32 0x43E00000#32) (max (Ideal.ofBits .f32 0xC3E00000#32) (Ideal.div x s))

/-- The scores' factor. -/
def smScale : EReal := Ideal.ofBits .f32 0x3DB504F3#32

/-- The code of an entry of a new key. -/
theorem kCode_apply (x0 : Vec Ideal S4 .f32) (x3 : Vec Ideal S64x128 .f32) (r : Fin 64) (d : Fin 128) :
    kCode x0 x3 (ix2 r d) = quant (x3 (ix2 r d)) (word x0 ⟨r.val % 4, Nat.mod_lt _ (by decide)⟩) := by
  pointwise [kCode, k0_pay2]
  simp (disch := omega) only [four_word, four_nonneg, mod4_word, pick0, pick1, pick2, pick3]
  have h : r.val % 4 = 0 ∨ r.val % 4 = 1 ∨ r.val % 4 = 2 ∨ r.val % 4 = 3 := by omega
  rcases h with h | h | h | h <;> simp only [h] <;> rfl

/-- The code of an entry of a new value. -/
theorem vCode_apply (x0 : Vec Ideal S4 .f32) (x3 : Vec Ideal S64x128 .f32) (r : Fin 64) (d : Fin 128) :
    vCode x0 x3 (ix2 r d) = quant (x3 (ix2 r d)) (word x0 ⟨r.val % 4, Nat.mod_lt _ (by decide)⟩) := by
  pointwise [vCode, k0_pay28, k0_pay5, k0_pay6, k0_pay7]
  simp (disch := omega) only [four_word, four_nonneg, mod4_word, pick0, pick1, pick2, pick3]
  have h : r.val % 4 = 0 ∨ r.val % 4 = 1 ∨ r.val % 4 = 2 ∨ r.val % 4 = 3 := by omega
  rcases h with h | h | h | h <;> simp only [h] <;> rfl

/-- The queries twice, once for each half of a block of keys. -/
theorem qcat_apply (x2 : Vec Ideal S1x32x128 .f32) (r : Fin 64) (e : Fin 256) :
    k0_pay32 x2 (ix2 r e) = if h : r.val < 32 then (if h' : e.val < 128 then x2 (ix3 0 ⟨r.val, h⟩ ⟨e.val, h'⟩) else 0)
      else if h' : e.val < 128 then 0 else x2 (ix3 0 ⟨r.val - 32, by omega⟩ ⟨e.val - 128, by omega⟩) := by
  pointwise [k0_pay32, k0_pay31]

/-- The products of the queries with the first half of a block of keys. -/
theorem pay8_lo (x0 : Vec Ideal S4 .f32) (x2 : Vec Ideal S1x32x128 .f32) (ch : Vec Ideal S1x2048x128 .fp8e4m3) (r : ℕ) (hr : r < 32) (j : ℕ) (hj : j < 1024) :
    k0_pay8 (kScale x0) (k0_pay32 x2) ch (ix2 ⟨r, by omega⟩ ⟨j, hj⟩)
      = ∑ d : Fin 128, x2 (ix3 0 ⟨r, hr⟩ d) * (ch (ix3 0 ⟨j, by omega⟩ d) * word x0 ⟨j % 4, Nat.mod_lt _ (by decide)⟩) := by
  pointwise [k0_pay8]
  simp only [qcat_apply, kScale_apply]
  have hz : ∀ x : Fin 128, ¬ 128 + x.val < 128 := fun x => by omega
  simp only [hr, hz, dite_true, dite_false, Fin.is_lt, zero_mul, Finset.sum_const_zero, add_zero]
  refine Finset.sum_congr rfl fun d _ => ?_
  congr 2
  · congr 2; apply Fin.ext; dsimp only; omega
  · congr 1; apply Fin.ext; dsimp only; omega

/-- The products of the queries with the second half of a block of keys. -/
theorem pay8_hi (x0 : Vec Ideal S4 .f32) (x2 : Vec Ideal S1x32x128 .f32) (ch : Vec Ideal S1x2048x128 .fp8e4m3) (r : ℕ) (hr : r < 32) (j : ℕ) (hj : j < 1024) :
    k0_pay8 (kScale x0) (k0_pay32 x2) ch (ix2 ⟨32 + r, by omega⟩ ⟨j, hj⟩)
      = ∑ d : Fin 128, x2 (ix3 0 ⟨r, hr⟩ d) * (ch (ix3 0 ⟨1024 + j, by omega⟩ d) * word x0 ⟨j % 4, Nat.mod_lt _ (by decide)⟩) := by
  pointwise [k0_pay8]
  simp only [qcat_apply, kScale_apply]
  have hz : ∀ x : Fin 128, ¬ 128 + x.val < 128 := fun x => by omega
  have hy : ¬ 32 + r < 32 := by omega
  simp only [hy, hz, dite_true, dite_false, Fin.is_lt, zero_mul, Finset.sum_const_zero, zero_add]
  refine Finset.sum_congr rfl fun d _ => ?_
  congr 2
  · congr 2 <;> first | omega | (apply Fin.ext; dsimp only; omega)
  · congr 2; apply Fin.ext; dsimp only; omega
  · congr 1; apply Fin.ext; dsimp only; omega

/-- The scores of one block of keys: column `j` is a key of head `j % 4`, its products with that head's queries. -/
theorem scoreBlk_apply (x0 : Vec Ideal S4 .f32) (x2 : Vec Ideal S1x32x128 .f32) (ch : Vec Ideal S1x2048x128 .fp8e4m3) (g : Fin 8) (j : Fin 2048) :
    scoreBlk (kScale x0) (k0_pay32 x2) ch (ix2 g j)
      = (∑ d : Fin 128, x2 (ix3 0 ⟨8 * (j.val % 4) + g.val, by omega⟩ d) * (ch (ix3 0 j d) * word x0 ⟨j.val % 4, Nat.mod_lt _ (by decide)⟩)) * smScale := by
  pointwise [scoreBlk, k0_pay14, k0_pay13, k0_pay9, k0_pay11, k0_pay10, k0_pay12]
  simp (disch := omega) only [four_word, four_nonneg, mod4_word, pick0, pick1, pick2, pick3]
  unfold smScale
  congr 1
  have h : j.val % 4 = 0 ∨ j.val % 4 = 1 ∨ j.val % 4 = 2 ∨ j.val % 4 = 3 := by omega
  by_cases hj : j.val < 1024
  · simp only [hj, dite_true]
    rcases h with h | h | h | h <;> simp only [h]
    · exact (pay8_lo x0 x2 ch g.val (by omega) j.val hj).trans (by simp only [h, Nat.mul_zero, Nat.zero_add] <;> rfl)
    · exact (pay8_lo x0 x2 ch (8 + g.val) (by omega) j.val hj).trans (by simp only [h, Nat.mul_zero, Nat.zero_add] <;> rfl)
    · exact (pay8_lo x0 x2 ch (16 + g.val) (by omega) j.val hj).trans (by simp only [h, Nat.mul_zero, Nat.zero_add] <;> rfl)
    · exact (pay8_lo x0 x2 ch (24 + g.val) (by omega) j.val hj).trans (by simp only [h, Nat.mul_zero, Nat.zero_add] <;> rfl)
  · have h' : (j.val - 1024) % 4 = j.val % 4 := by omega
    have e : ∀ hh, (⟨1024 + (j.val - 1024), hh⟩ : Fin 2048) = j := fun _ => Fin.ext (by dsimp only; omega)
    simp only [hj, dite_false, h']
    rcases h with h | h | h | h <;> simp only [h]
    · exact (pay8_hi x0 x2 ch g.val (by omega) (j.val - 1024) (by omega)).trans (by simp only [e, h', h, Nat.mul_zero, Nat.zero_add] <;> rfl)
    · exact (pay8_hi x0 x2 ch (8 + g.val) (by omega) (j.val - 1024) (by omega)).trans (by simp only [e, h', h, Nat.mul_zero, Nat.zero_add] <;> rfl)
    · exact (pay8_hi x0 x2 ch (16 + g.val) (by omega) (j.val - 1024) (by omega)).trans (by simp only [e, h', h, Nat.mul_zero, Nat.zero_add] <;> rfl)
    · exact (pay8_hi x0 x2 ch (24 + g.val) (by omega) (j.val - 1024) (by omega)).trans (by simp only [e, h', h, Nat.mul_zero, Nat.zero_add] <;> rfl)

/-- Row `n` of a cache, the rows being a token's four heads in turn; past the last the rows repeat. -/
def row (n : ℕ) : Fin 32768 := ⟨n % 32768, Nat.mod_lt _ (by decide)⟩

/-- Where the first loop's `k`-th block of keys starts. -/
theorem off1_eq : ∀ k : Fin k0_t1_loop.trips, k0_off1 k = ![0, 2048 * k.val, 0] := by decide

/-- Where the second loop's `k`-th block of values starts. -/
theorem off3_eq : ∀ k : Fin k0_t2_loop.trips, k0_off3 k = ![0, 2048 * k.val, 0] := by decide

/-- Row `j` of the `k`-th block of the key cache. -/
theorem chunkK_apply (x : Vec Ideal S1x32768x128 .fp8e4m3) (k : Fin k0_t1_loop.trips) (j : Fin 2048) (d : Fin 128) :
    chunkK x k (ix3 0 j d) = x (ix3 0 (row (2048 * k.val + j.val)) d) := by
  have hk : k.val < 16 := k.isLt
  refine congrArg x (funext fun a => Fin.ext ?_)
  show k0_off1 k a + 1 * (ix3 (0 : Fin 1) j d a).val = _
  rw [off1_eq]
  match a with
  | ⟨0, _⟩ => rfl
  | ⟨1, _⟩ => show 2048 * k.val + 1 * j.val = (2048 * k.val + j.val) % 32768; omega
  | ⟨2, _⟩ => show 0 + 1 * d.val = d.val; omega

/-- Row `j` of the `k`-th block of the value cache. -/
theorem chunkV_apply (x : Vec Ideal S1x32768x128 .fp8e4m3) (k : Fin k0_t2_loop.trips) (j : Fin 2048) (d : Fin 128) :
    chunkV x k (ix3 0 j d) = x (ix3 0 (row (2048 * k.val + j.val)) d) := by
  have hk : k.val < 16 := k.isLt
  refine congrArg x (funext fun a => Fin.ext ?_)
  show k0_off3 k a + 1 * (ix3 (0 : Fin 1) j d a).val = _
  rw [off3_eq]
  match a with
  | ⟨0, _⟩ => rfl
  | ⟨1, _⟩ => show 2048 * k.val + 1 * j.val = (2048 * k.val + j.val) % 32768; omega
  | ⟨2, _⟩ => show 0 + 1 * d.val = d.val; omega

/-- The score of cached row `n` for query `g` of its head. -/
def score (x0 : Vec Ideal S4 .f32) (x2 : Vec Ideal S1x32x128 .f32) (x5 : Vec Ideal S1x32768x128 .fp8e4m3) (g : Fin 8) (n : ℕ) : EReal :=
  (∑ d : Fin 128, x2 (ix3 0 ⟨8 * (n % 4) + g.val, by omega⟩ d) * (x5 (ix3 0 (row n) d) * word x0 ⟨n % 4, Nat.mod_lt _ (by decide)⟩)) * smScale

/-- The first loop's `k`-th block of scores. -/
theorem scoreBlk_chunk (x0 : Vec Ideal S4 .f32) (x2 : Vec Ideal S1x32x128 .f32) (x5 : Vec Ideal S1x32768x128 .fp8e4m3)
    (k : Fin k0_t1_loop.trips) (g : Fin 8) (j : Fin 2048) :
    scoreBlk (kScale x0) (k0_pay32 x2) (chunkK x5 k) (ix2 g j) = score x0 x2 x5 g (2048 * k.val + j.val) := by
  have h : (2048 * k.val + j.val) % 4 = j.val % 4 := by omega
  rw [scoreBlk_apply]
  unfold score
  simp only [chunkK_apply, h]

end Cert.KernelIdeal.Run

end
-- ==== Proof.Value.Max.lean ====
/- The kernel's running maximum over exact arithmetic. -/
module

public import proofs.«01_k».proof.Proof.Value.Scores

@[expose] public section

set_option maxRecDepth 16384

noncomputable section

namespace Cert.KernelIdeal.Run

open Cert.KernelIdeal Cert.KernelIdeal.Gen Cert.Attn
open Idealize.ShloMosaic

/-- A statement of sixteen cases. -/
theorem forall16 (P : Fin 16 → Prop) : (∀ k, P k) ↔ P 0 ∧ P 1 ∧ P 2 ∧ P 3 ∧ P 4 ∧ P 5 ∧ P 6 ∧ P 7 ∧ P 8 ∧ P 9 ∧ P 10 ∧ P 11 ∧ P 12 ∧ P 13 ∧ P 14 ∧ P 15 := by
  constructor
  · intro h; exact ⟨h 0, h 1, h 2, h 3, h 4, h 5, h 6, h 7, h 8, h 9, h 10, h 11, h 12, h 13, h 14, h 15⟩
  · rintro ⟨h0, h1, h2, h3, h4, h5, h6, h7, h8, h9, h10, h11, h12, h13, h14, h15⟩ k
    fin_cases k <;> assumption

/-- The first loop's scores before they are stored are the stored ones. -/
theorem pay13_apply (ks : FVec Ideal S16x128 .bf16) (q : FVec Ideal S64x256 .bf16) (ch : Vec Ideal S1x2048x128 .fp8e4m3) (g : Fin 8) (j : Fin 2048) :
    k0_pay13 (k0_pay8 ks q ch) (k0_pay9 ks q ch) (k0_pay11 ks q ch) k0_pay12 (ix2 g j) = scoreBlk ks q ch (ix2 g j) := by
  unfold scoreBlk k0_pay14
  generalize k0_pay13 (k0_pay8 ks q ch) (k0_pay9 ks q ch) (k0_pay11 ks q ch) k0_pay12 = y
  pointwise []

/-- A bound of the running maximum after one block of keys bounds the one before it and the block's scores in the lane. -/
theorem maxStep_le (ks : FVec Ideal S16x128 .bf16) (q : FVec Ideal S64x256 .bf16) (ch : Vec Ideal S1x2048x128 .fp8e4m3) (acc : FVec Ideal S8x128 .f32)
    (g : Fin 8) (l : Fin 128) (x : EReal) :
    maxStep ks q ch acc (ix2 g l) ≤ x ↔ acc (ix2 g l) ≤ x ∧ ∀ k : Fin 16, scoreBlk ks q ch (ix2 g ⟨128 * k.val + l.val, by omega⟩) ≤ x := by
  simp only [← pay13_apply]
  unfold maxStep k0_pay39 k0_pay15
  generalize k0_pay13 (k0_pay8 ks q ch) (k0_pay9 ks q ch) (k0_pay11 ks q ch) k0_pay12 = y
  pointwise []
  simp only [max_le_iff, and_assoc, forall16]
  have e : ∀ h, (⟨128 * (0 : Fin 16).val + l.val, h⟩ : Fin 2048) = ⟨l.val, by omega⟩ := fun _ => Fin.ext (by simp)
  rw [e]
  exact Iff.rfl

/-- The token of lane `l` is `l / 4`. -/
theorem lane_div : ∀ l : Fin 128, Scalar.select
        (IntOp.andi
          (IntOp.cmpi CmpIPredicate.ne
            (IntOp.subi (BitVec.setWidth 32 (IntOp.cmpi CmpIPredicate.sgt (BitVec.ofNat 32 l.val) 0#32))
              (BitVec.setWidth 32 (IntOp.cmpi CmpIPredicate.slt (BitVec.ofNat 32 l.val) 0#32)))
            (Scalar.subi (Scalar.extui (Scalar.cmpi CmpIPredicate.sgt 4#32 0#32)) (Scalar.extui 0#1)))
          (IntOp.cmpi CmpIPredicate.ne (IntOp.remsi ArithUnit.vector (BitVec.ofNat 32 l.val) 4#32) 0#32))
        (IntOp.subi (IntOp.divsi ArithUnit.vector (BitVec.ofNat 32 l.val) 4#32) 1#32)
        (IntOp.divsi ArithUnit.vector (BitVec.ofNat 32 l.val) 4#32) = BitVec.ofNat 32 (l.val / 4) := by decide

/-- A choice by equality of two small words is a choice by equality of the numbers. -/
theorem pick_eq (m n : ℕ) (hm : m < 1024) (hn : n < 1024) (a b : EReal) :
    Scalar.select (IntOp.cmpi CmpIPredicate.eq (BitVec.ofNat 32 m) (BitVec.ofNat 32 n)) a b = if m = n then a else b := by
  have e : BitVec.ofNat 32 m = BitVec.ofNat 32 n ↔ m = n := by
    rw [← BitVec.toNat_inj, BitVec.toNat_ofNat, BitVec.toNat_ofNat, Nat.mod_eq_of_lt (by omega), Nat.mod_eq_of_lt (by omega)]
  by_cases h : m = n
  · subst h; simp [Scalar.select, IntOp.cmpi]
  · have e' : (BitVec.ofNat 32 m == BitVec.ofNat 32 n) = false := by simpa [e] using h
    simp [Scalar.select, IntOp.cmpi, e', h]

/-- The new tokens' scores: a lane of the point's own token has its head's score, the others none. -/
theorem newScore_apply (i : grid0.Coords) (x2 : Vec Ideal S1x32x128 .f32) (kn : Vec Ideal S128x128 .bf16) (g : Fin 8) (l : Fin 128) :
    newScore i x2 kn (ix2 g l) = if l.val / 4 = (i 0).val
      then (∑ d : Fin 128, x2 (ix3 0 ⟨8 * (l.val % 4) + g.val, by omega⟩ d) * kn (ix2 l d)) * smScale else ⊥ := by
  have hi : (i 0).val < 16 := (i 0).isLt
  pointwise [newScore, newDot, k0_pay33, k0_pay31, k0_pay34, k0_pay35, k0_pay36, k0_pay37, k0_pay38]
  simp (disch := omega) only [four_word, four_nonneg, mod4_word, pick0, pick1, pick2, pick3]
  rw [lane_div, pick_eq _ _ (by omega) (by omega), negInf]
  have h : l.val % 4 = 0 ∨ l.val % 4 = 1 ∨ l.val % 4 = 2 ∨ l.val % 4 = 3 := by omega
  unfold smScale
  rcases h with h | h | h | h <;> simp only [h, Nat.mul_zero, Nat.zero_add] <;> rfl

/-- The maximum per head is the maximum of the head's lanes. -/
theorem headMax_apply (lm : FVec Ideal S8x128 .f32) (g : Fin 8) (l : Fin 128) :
    headMax lm (ix2 g l) = Finset.univ.fold max ⊥ (fun x : Fin 128 => if x.val % 4 = l.val % 4 then lm (ix2 g x) else ⊥) := by
  pointwise [headMax, k0_pay46, k0_pay43, k0_pay40, k0_pay41, k0_pay42, k0_pay44, k0_pay45]
  simp (disch := omega) only [four_word, four_nonneg, mod4_word, pick0, pick1, pick2, pick3]
  rw [negInf]
  have h : l.val % 4 = 0 ∨ l.val % 4 = 1 ∨ l.val % 4 = 2 ∨ l.val % 4 = 3 := by omega
  have n1 : ¬ 16 + g.val < 8 := by omega
  have n2 : ¬ 24 + g.val < 8 := by omega
  have n3 : ¬ 16 + g.val - 8 < 8 := by omega
  have n4 : ¬ 24 + g.val - 8 < 8 := by omega
  have n5 : ¬ 24 + g.val - 8 - 8 < 8 := by omega
  have n6 : 16 + g.val - 8 - 8 < 8 := by omega
  have e1 : ∀ h, (⟨16 + g.val - 8 - 8, h⟩ : Fin 8) = g := fun _ => Fin.ext (by dsimp only; omega)
  have e2 : ∀ h, (⟨24 + g.val - 8 - 8 - 8, h⟩ : Fin 8) = g := fun _ => Fin.ext (by dsimp only; omega)
  rcases h with h | h | h | h <;> simp [h, n1, n2, n3, n4, n5, n6, e1, e2]

/-- The weight of the new tokens per lane. -/
theorem newWeight_apply (sn lm : FVec Ideal S8x128 .f32) (g : Fin 8) (l : Fin 128) :
    newWeight sn lm (ix2 g l) = Ideal.exp (sn (ix2 g l) - headMax lm (ix2 g l)) := by
  unfold newWeight k0_pay47 headMax
  generalize k0_pay46 (F := Ideal) _ _ _ = y
  pointwise []

/-- The weight of the new tokens as a matrix: a row is a query of a head, and its columns of other heads are zero. -/
theorem newWeight'_apply (sn lm : FVec Ideal S8x128 .f32) (h : Fin 4) (g : Fin 8) (l : Fin 128) :
    newWeight' sn lm (ix2 ⟨8 * h.val + g.val, by omega⟩ l) = if l.val % 4 = h.val then newWeight sn lm (ix2 g l) else 0 := by
  unfold newWeight' k0_pay48 newWeight
  generalize k0_pay47 (F := Ideal) _ _ _ _ = y
  pointwise []
  simp (disch := omega) only [four_word, four_nonneg, mod4_word, pick0, pick1, pick2, pick3]
  have n1 : ¬ 16 + g.val < 8 := by omega
  have n2 : ¬ 24 + g.val < 8 := by omega
  have n3 : ¬ 16 + g.val - 8 < 8 := by omega
  have n4 : ¬ 24 + g.val - 8 < 8 := by omega
  have n5 : ¬ 24 + g.val - 8 - 8 < 8 := by omega
  have n6 : 16 + g.val - 8 - 8 < 8 := by omega
  have e1 : ∀ h, (⟨16 + g.val - 8 - 8, h⟩ : Fin 8) = g := fun _ => Fin.ext (by dsimp only; omega)
  have e2 : ∀ h, (⟨24 + g.val - 8 - 8 - 8, h⟩ : Fin 8) = g := fun _ => Fin.ext (by dsimp only; omega)
  match h with
  | ⟨0, _⟩ => simp
  | ⟨1, _⟩ => simp
  | ⟨2, _⟩ => simp [n1, n3, n6, e1]
  | ⟨3, _⟩ => simp [n2, n4, n5, e2]

end Cert.KernelIdeal.Run

end
-- ==== Proof.Value.Sums.lean ====
/- The kernel's sums of weights and of weighted values over exact arithmetic. -/
module

public import proofs.«01_k».proof.Proof.Value.Max

@[expose] public section

set_option maxRecDepth 16384

noncomputable section

namespace Cert.KernelIdeal.Run

open Cert.KernelIdeal Cert.KernelIdeal.Gen Cert.Attn
open Idealize.ShloMosaic

/-- A sum of sixteen terms. -/
theorem sum16 (f : Fin 16 → EReal) : (∑ k, f k) = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- The weights of one block: the score less the head's maximum, to the exponential. -/
theorem pay17_apply (mx : FVec Ideal S8x128 .f32) (s : FVec Ideal S8x2048 .f32) (g : Fin 8) (j : Fin 2048) :
    k0_pay17 mx s (ix2 g j) = Ideal.exp (s (ix2 g j) - mx (ix2 g ⟨j.val % 128, Nat.mod_lt _ (by decide)⟩)) := by
  show Ideal.exp (s (ix2 g j) - concatenate S8x2048 1 (List.replicate 16 (⟨S8x128, mx⟩ : (s : Shape) × (s.Idx → EReal))) _ (ix2 g j)) = _
  rw [concatenate_replicate_apply (1 : Fin S8x2048.rank) 16 mx _ rfl (ix2 g j) (ix2 g ⟨j.val % 128, Nat.mod_lt _ (by decide)⟩) rfl ?_]
  intro b hb
  match b with
  | ⟨0, _⟩ => rfl
  | ⟨1, _⟩ => exact absurd rfl hb

/-- The sum of weights per lane after one block. -/
theorem sumStep_fst (vs : FVec Ideal S16x128 .bf16) (mx : FVec Ideal S8x128 .f32) (ch : Vec Ideal S1x2048x128 .fp8e4m3) (s : FVec Ideal S8x2048 .f32)
    (acc : FVec Ideal S8x128 .f32 × FVec Ideal S64x256 .f32) (g : Fin 8) (l : Fin 128) :
    (sumStep vs mx ch s acc).1 (ix2 g l) = acc.1 (ix2 g l) + ∑ k : Fin 16, k0_pay17 mx s (ix2 g ⟨128 * k.val + l.val, by omega⟩) := by
  show k0_pay18 mx acc.1 s (ix2 g l) = _
  unfold k0_pay18
  generalize k0_pay17 mx s = y
  generalize acc.1 = a
  pointwise []
  have e : ∀ h, (⟨128 * (0 : Fin 16).val + l.val, h⟩ : Fin 2048) = ⟨l.val, by omega⟩ := fun _ => Fin.ext (by simp)
  rw [sum16, e]
  simp only [add_assoc]
  rfl

/-- The first half of a block of values, dequantised: the left columns. -/
theorem pay16_lo (x1 : Vec Ideal S4 .f32) (ch : Vec Ideal S1x2048x128 .fp8e4m3) (j : Fin 1024) (d : ℕ) (hd : d < 128) :
    k0_pay16 (vScale x1) ch (ix2 j ⟨d, by omega⟩) = ch (ix3 0 ⟨j.val, by omega⟩ ⟨d, hd⟩) * word x1 ⟨j.val % 4, Nat.mod_lt _ (by decide)⟩ := by
  pointwise [k0_pay16]
  simp only [vScale_apply, hd, dite_true]
  congr 2
  · congr 1; apply Fin.ext; dsimp only; omega
  · apply Fin.ext; dsimp only; omega

/-- The second half of a block of values, dequantised: the right columns. -/
theorem pay16_hi (x1 : Vec Ideal S4 .f32) (ch : Vec Ideal S1x2048x128 .fp8e4m3) (j : Fin 1024) (d : ℕ) (hd : d < 128) :
    k0_pay16 (vScale x1) ch (ix2 j ⟨128 + d, by omega⟩) = ch (ix3 0 ⟨1024 + j.val, by omega⟩ ⟨d, hd⟩) * word x1 ⟨j.val % 4, Nat.mod_lt _ (by decide)⟩ := by
  pointwise [k0_pay16]
  simp only [vScale_apply]
  congr 2
  · congr 1; apply Fin.ext; dsimp only; omega
  · apply Fin.ext; dsimp only; omega

/-- The weighted values after one block: the upper rows, the weights of the first half of the block. -/
theorem sumStep_lo (vs : FVec Ideal S16x128 .bf16) (mx : FVec Ideal S8x128 .f32) (ch : Vec Ideal S1x2048x128 .fp8e4m3) (s : FVec Ideal S8x2048 .f32)
    (acc : FVec Ideal S8x128 .f32 × FVec Ideal S64x256 .f32) (h : Fin 4) (g : Fin 8) (e : Fin 256) :
    (sumStep vs mx ch s acc).2 (ix2 ⟨8 * h.val + g.val, by omega⟩ e) = acc.2 (ix2 ⟨8 * h.val + g.val, by omega⟩ e)
      + ∑ j : Fin 1024, (if j.val % 4 = h.val then k0_pay17 mx s (ix2 g ⟨j.val, by omega⟩) else 0) * k0_pay16 vs ch (ix2 j e) := by
  show k0_pay50 acc.2 (k0_pay16 vs ch) (k0_pay20 (k0_pay19 mx s) (iota .tc S8x1024 32 [1] iota_S8x1024_d1_w32)) (k0_pay21 (k0_pay17 mx s)) 4#32 k0_pay22 k0_pay23 _ = _
  unfold k0_pay50 k0_pay20 k0_pay19 k0_pay21
  generalize k0_pay17 mx s = y
  generalize k0_pay16 vs ch = v
  generalize acc.2 = a
  pointwise [k0_pay22, k0_pay23]
  simp (disch := omega) only [four_word, four_nonneg, mod4_word, pick0, pick1, pick2, pick3]
  congr 1
  refine Finset.sum_congr rfl fun x _ => ?_
  congr 1
  obtain ⟨h, hh⟩ := h
  have hr : ∃ r, r = 8 * h + g.val := ⟨_, rfl⟩
  obtain ⟨r, hr⟩ := hr
  have hc : h = 0 ∨ h = 1 ∨ h = 2 ∨ h = 3 := by omega
  simp only [← hr]
  rcases hc with rfl | rfl | rfl | rfl
  · have n0 : r < 32 := by omega
    have n1 : r < 8 := by omega
    have e1 : ∀ hq, (⟨r, hq⟩ : Fin 8) = g := fun _ => Fin.ext (by dsimp only; omega)
    simp only [n0, n1, dite_true, dite_false, e1]
  · have n0 : r < 32 := by omega
    have n1 : ¬ r < 8 := by omega
    have n2 : r - 8 < 8 := by omega
    have e1 : ∀ hq, (⟨r - 8, hq⟩ : Fin 8) = g := fun _ => Fin.ext (by dsimp only; omega)
    simp only [n0, n1, n2, dite_true, dite_false, e1]
  · have n0 : r < 32 := by omega
    have n1 : ¬ r < 8 := by omega
    have n2 : ¬ r - 8 < 8 := by omega
    have n3 : r - 8 - 8 < 8 := by omega
    have e1 : ∀ hq, (⟨r - 8 - 8, hq⟩ : Fin 8) = g := fun _ => Fin.ext (by dsimp only; omega)
    simp only [n0, n1, n2, n3, dite_true, dite_false, e1]
  · have n0 : r < 32 := by omega
    have n1 : ¬ r < 8 := by omega
    have n2 : ¬ r - 8 < 8 := by omega
    have n3 : ¬ r - 8 - 8 < 8 := by omega
    have e1 : ∀ hq, (⟨r - 8 - 8 - 8, hq⟩ : Fin 8) = g := fun _ => Fin.ext (by dsimp only; omega)
    simp only [n0, n1, n2, n3, dite_true, dite_false, e1]
/-- The weighted values after one block: the lower rows, the weights of the second half of the block. -/
theorem sumStep_hi (vs : FVec Ideal S16x128 .bf16) (mx : FVec Ideal S8x128 .f32) (ch : Vec Ideal S1x2048x128 .fp8e4m3) (s : FVec Ideal S8x2048 .f32)
    (acc : FVec Ideal S8x128 .f32 × FVec Ideal S64x256 .f32) (h : Fin 4) (g : Fin 8) (e : Fin 256) :
    (sumStep vs mx ch s acc).2 (ix2 ⟨32 + (8 * h.val + g.val), by omega⟩ e) = acc.2 (ix2 ⟨32 + (8 * h.val + g.val), by omega⟩ e)
      + ∑ j : Fin 1024, (if j.val % 4 = h.val then k0_pay17 mx s (ix2 g ⟨1024 + j.val, by omega⟩) else 0) * k0_pay16 vs ch (ix2 j e) := by
  show k0_pay50 acc.2 (k0_pay16 vs ch) (k0_pay20 (k0_pay19 mx s) (iota .tc S8x1024 32 [1] iota_S8x1024_d1_w32)) (k0_pay21 (k0_pay17 mx s)) 4#32 k0_pay22 k0_pay23 _ = _
  unfold k0_pay50 k0_pay20 k0_pay19 k0_pay21
  generalize k0_pay17 mx s = y
  generalize k0_pay16 vs ch = v
  generalize acc.2 = a
  pointwise [k0_pay22, k0_pay23]
  simp (disch := omega) only [four_word, four_nonneg, mod4_word, pick0, pick1, pick2, pick3]
  congr 1
  refine Finset.sum_congr rfl fun x _ => ?_
  congr 1
  obtain ⟨h, hh⟩ := h
  have hr : ∃ r, r = 8 * h + g.val := ⟨_, rfl⟩
  obtain ⟨r, hr⟩ := hr
  have hc : h = 0 ∨ h = 1 ∨ h = 2 ∨ h = 3 := by omega
  simp only [← hr]
  rcases hc with rfl | rfl | rfl | rfl
  · have n0 : r < 32 := by omega
    have n1 : r < 8 := by omega
    have e1 : ∀ hq, (⟨r, hq⟩ : Fin 8) = g := fun _ => Fin.ext (by dsimp only; omega)
    simp only [n1, dite_true, dite_false, e1]
  · have n0 : r < 32 := by omega
    have n1 : ¬ r < 8 := by omega
    have n2 : r - 8 < 8 := by omega
    have e1 : ∀ hq, (⟨r - 8, hq⟩ : Fin 8) = g := fun _ => Fin.ext (by dsimp only; omega)
    simp only [n1, n2, dite_true, dite_false, e1]
  · have n0 : r < 32 := by omega
    have n1 : ¬ r < 8 := by omega
    have n2 : ¬ r - 8 < 8 := by omega
    have n3 : r - 8 - 8 < 8 := by omega
    have e1 : ∀ hq, (⟨r - 8 - 8, hq⟩ : Fin 8) = g := fun _ => Fin.ext (by dsimp only; omega)
    simp only [n1, n2, n3, dite_true, dite_false, e1]
  · have n0 : r < 32 := by omega
    have n1 : ¬ r < 8 := by omega
    have n2 : ¬ r - 8 < 8 := by omega
    have n3 : ¬ r - 8 - 8 < 8 := by omega
    have e1 : ∀ hq, (⟨r - 8 - 8 - 8, hq⟩ : Fin 8) = g := fun _ => Fin.ext (by dsimp only; omega)
    simp only [n1, n2, n3, dite_true, dite_false, e1]

end Cert.KernelIdeal.Run

end
-- ==== Proof.Value.Finish.lean ====
/- The kernel's output and its dequantised new rows over exact arithmetic, entry by entry. -/
module

public import proofs.«01_k».proof.Proof.Value.Sums

@[expose] public section

set_option maxRecDepth 16384

noncomputable section

namespace Cert.KernelIdeal.Run

open Cert.KernelIdeal Cert.KernelIdeal.Gen Cert.Attn
open Idealize.ShloMosaic

/-- The output of a query: the weighted values over the sum of weights. -/
theorem finish_apply (nw : FVec Ideal S32x128 .bf16) (vn : Vec Ideal S128x128 .bf16) (a : FVec Ideal S8x128 .f32 × FVec Ideal S64x256 .f32)
    (h : Fin 4) (g : Fin 8) (d : Fin 128) :
    finish nw vn a (ix3 0 ⟨8 * h.val + g.val, by omega⟩ d)
      = Ideal.div ((∑ l : Fin 128, nw (ix2 ⟨8 * h.val + g.val, by omega⟩ l) * vn (ix2 l d))
          + a.2 (ix2 ⟨8 * h.val + g.val, by omega⟩ ⟨d.val, by omega⟩) + a.2 (ix2 ⟨32 + (8 * h.val + g.val), by omega⟩ ⟨128 + d.val, by omega⟩))
        (∑ l : Fin 128, if l.val % 4 = h.val then a.1 (ix2 g l) else 0) := by
  pointwise [finish, k0_pay1, k0_pay51, k0_pay52, k0_pay53, k0_pay54, k0_pay55]
  simp (disch := omega) only [four_word, four_nonneg, mod4_word, pick0, pick1, pick2, pick3]
  obtain ⟨h, hh⟩ := h
  obtain ⟨r, hr⟩ : ∃ r, r = 8 * h + g.val := ⟨_, rfl⟩
  have hc : h = 0 ∨ h = 1 ∨ h = 2 ∨ h = 3 := by omega
  congr 1
  simp only [← hr]
  rcases hc with rfl | rfl | rfl | rfl
  · have n1 : r < 8 := by omega
    have e1 : ∀ hq, (⟨r, hq⟩ : Fin 8) = g := fun _ => Fin.ext (by dsimp only; omega)
    simp only [n1, dite_true, e1]
  · have n1 : ¬ r < 8 := by omega
    have n2 : r - 8 < 8 := by omega
    have e1 : ∀ hq, (⟨r - 8, hq⟩ : Fin 8) = g := fun _ => Fin.ext (by dsimp only; omega)
    simp only [n1, n2, dite_true, dite_false, e1]
  · have n1 : ¬ r < 8 := by omega
    have n2 : ¬ r - 8 < 8 := by omega
    have n3 : r - 8 - 8 < 8 := by omega
    have e1 : ∀ hq, (⟨r - 8 - 8, hq⟩ : Fin 8) = g := fun _ => Fin.ext (by dsimp only; omega)
    simp only [n1, n2, n3, dite_true, dite_false, e1]
  · have n1 : ¬ r < 8 := by omega
    have n2 : ¬ r - 8 < 8 := by omega
    have n3 : ¬ r - 8 - 8 < 8 := by omega
    have e1 : ∀ hq, (⟨r - 8 - 8 - 8, hq⟩ : Fin 8) = g := fun _ => Fin.ext (by dsimp only; omega)
    simp only [n1, n2, n3, dite_false, e1]

/-- The codes of the new keys times their scales. -/
theorem pay3_apply (x0 : Vec Ideal S4 .f32) (c : Vec Ideal S64x128 .fp8e4m3) (r : Fin 64) (d : Fin 128) :
    k0_pay3 (kScale x0) c (ix2 r d) = c (ix2 r d) * word x0 ⟨r.val % 4, Nat.mod_lt _ (by decide)⟩ := by
  pointwise [k0_pay3]
  simp only [kScale_apply]
  congr 3
  omega

/-- The codes of the new values times their scales. -/
theorem pay29_apply (x1 : Vec Ideal S4 .f32) (x4 : Vec Ideal S64x128 .f32) (r : Fin 64) (d : Fin 128) :
    k0_pay29 4#32 k0_pay25 k0_pay26 (word x1 0) (word x1 1) (word x1 2) (word x1 3) (k0_pay5 x4) k0_pay6 (k0_pay7 (word x1 0) (word x1 1)) (word x1 2) (word x1 3) (ix2 r d)
      = vCode x1 x4 (ix2 r d) * word x1 ⟨r.val % 4, Nat.mod_lt _ (by decide)⟩ := by
  unfold k0_pay29
  have hv : k0_pay27 4#32 k0_pay25 k0_pay26 (word x1 0) (word x1 1) (word x1 2) (word x1 3) = vScale x1 := rfl
  have hc : k0_pay28 (k0_pay5 x4) k0_pay6 (k0_pay7 (word x1 0) (word x1 1)) (word x1 2) (word x1 3) = vCode x1 x4 := rfl
  rw [hv, hc]
  generalize vCode x1 x4 = c
  pointwise []
  simp only [vScale_apply]
  congr 3
  omega

/-- Row `r` of the dequantised new keys: the code times its head's scale. -/
theorem kNew_apply (x0 : Vec Ideal S4 .f32) (x3 : Vec Ideal S64x128 .f32) (r : Fin 128) (hr : r.val < 64) (d : Fin 128) :
    kNew x0 x3 (ix2 r d) = quant (x3 (ix2 ⟨r.val, hr⟩ d)) (word x0 ⟨r.val % 4, Nat.mod_lt _ (by decide)⟩) * word x0 ⟨r.val % 4, Nat.mod_lt _ (by decide)⟩ := by
  unfold kNew
  rw [View.canon_cons_of_not_mem]
  · have e : ix2 r d = (Rect.unit (s := S128x128) ![0, 0] S64x128.size inb_S128x128_S64x128_0_0).emb (ix2 (⟨r.val, hr⟩ : Fin 64) d) := by
      funext a
      refine Fin.ext ?_
      match a with
      | ⟨0, _⟩ => show r.val = 0 + 1 * r.val; omega
      | ⟨1, _⟩ => show d.val = 0 + 1 * d.val; omega
    rw [e, View.canon_cons_emb, ← kCode_apply]
    rw [pay3_apply]
  · intro hm
    obtain ⟨i, hi, he⟩ := (LoadRect.mem_set _).mp hm (0 : Fin 2)
    have he' : r.val = 64 + 1 * i := he
    omega

/-- Row `r` of the dequantised new values: the code times its head's scale. -/
theorem vNew_apply (x0 : Vec Ideal S4 .f32) (x3 : Vec Ideal S64x128 .f32) (r : Fin 128) (hr : r.val < 64) (d : Fin 128) :
    vNew x0 x3 (ix2 r d) = quant (x3 (ix2 ⟨r.val, hr⟩ d)) (word x0 ⟨r.val % 4, Nat.mod_lt _ (by decide)⟩) * word x0 ⟨r.val % 4, Nat.mod_lt _ (by decide)⟩ := by
  unfold vNew
  rw [View.canon_cons_of_not_mem]
  · have e : ix2 r d = (Rect.unit (s := S128x128) ![0, 0] S64x128.size inb_S128x128_S64x128_0_0).emb (ix2 (⟨r.val, hr⟩ : Fin 64) d) := by
      funext a
      refine Fin.ext ?_
      match a with
      | ⟨0, _⟩ => show r.val = 0 + 1 * r.val; omega
      | ⟨1, _⟩ => show d.val = 0 + 1 * d.val; omega
    rw [e, View.canon_cons_emb, ← vCode_apply]
    rw [pay29_apply]
  · intro hm
    obtain ⟨i, hi, he⟩ := (LoadRect.mem_set _).mp hm (0 : Fin 2)
    have he' : r.val = 64 + 1 * i := he
    omega

end Cert.KernelIdeal.Run

end
-- ==== Proof.Value.Reindex.lean ====
/- Sums over the rows of one head, cut in the ways the kernel cuts them. -/
module

public import Idealize.ShloMosaic.Lib.Pointwise

@[expose] public section

set_option maxRecDepth 16384

noncomputable section

namespace Cert.Attn

open Finset
open Idealize.ShloMosaic

/-- A sum over a product of ranges, row by row. -/
theorem sum_range_mul (a b : ℕ) (F : ℕ → EReal) : (∑ n ∈ range (a * b), F n) = ∑ i ∈ range a, ∑ j ∈ range b, F (b * i + j) := by
  induction a with
  | zero => simp
  | succ a ih => rw [Nat.succ_mul, sum_range_add, ih, sum_range_succ, Nat.mul_comm]

/-- The rows of head `h` are every fourth row. -/
theorem sum_head (a h : ℕ) (hh : h < 4) (G : ℕ → EReal) :
    (∑ n ∈ range (a * 4), if n % 4 = h then G n else 0) = ∑ t ∈ range a, G (4 * t + h) := by
  rw [sum_range_mul]
  refine sum_congr rfl fun t _ => ?_
  rw [sum_eq_single h]
  · rw [if_pos (by omega)]
  · intro j hj hne
    rw [mem_range] at hj
    rw [if_neg (by omega)]
  · intro hn; exact absurd (mem_range.2 hh) hn

/-- The rows of head `h` summed lane by lane. -/
theorem sum_lanes (h : ℕ) (hh : h < 4) (G : ℕ → EReal) :
    (∑ l : Fin 128, if l.val % 4 = h then ∑ k ∈ range 16, ∑ c : Fin 16, G (2048 * k + (128 * c.val + l.val)) else 0) = ∑ t : Fin 8192, G (4 * t.val + h) := by
  rw [sum_range (fun t => G (4 * t + h)) |>.symm, ← sum_head 8192 h hh G, show 8192 * 4 = 16 * 2048 from rfl, sum_range_mul]
  rw [sum_congr rfl fun k _ => show (∑ j ∈ range 2048, if (2048 * k + j) % 4 = h then G (2048 * k + j) else 0)
      = ∑ c ∈ range 16, ∑ l ∈ range 128, if l % 4 = h then G (2048 * k + (128 * c + l)) else 0 by
    rw [show 2048 = 16 * 128 from rfl, sum_range_mul]
    refine sum_congr rfl fun c _ => sum_congr rfl fun l _ => ?_
    congr 1
    rw [eq_iff_iff]; omega]
  rw [sum_congr rfl fun k _ => sum_comm]
  rw [sum_comm, ← Fin.sum_univ_eq_sum_range (fun l => ∑ k ∈ range 16, ∑ c ∈ range 16, if l % 4 = h then G (2048 * k + (128 * c + l)) else 0)]
  refine sum_congr rfl fun l _ => ?_
  by_cases e : l.val % 4 = h
  · simp only [e, if_true]
    refine sum_congr rfl fun k _ => ?_
    rw [← Fin.sum_univ_eq_sum_range (fun c => G (2048 * k + (128 * c + l.val)))]
  · simp only [e, if_false, sum_const_zero]

/-- The rows of head `h` summed half block by half block. -/
theorem sum_halves (h : ℕ) (hh : h < 4) (G : ℕ → EReal) :
    (∑ k ∈ range 16, ∑ j : Fin 1024, if j.val % 4 = h then G (2048 * k + j.val) else 0)
      + (∑ k ∈ range 16, ∑ j : Fin 1024, if j.val % 4 = h then G (2048 * k + (1024 + j.val)) else 0) = ∑ t : Fin 8192, G (4 * t.val + h) := by
  rw [sum_range (fun t => G (4 * t + h)) |>.symm, ← sum_head 8192 h hh G, show 8192 * 4 = 16 * 2048 from rfl, sum_range_mul, ← sum_add_distrib]
  refine sum_congr rfl fun k _ => ?_
  rw [show 2048 = 1024 + 1024 from rfl, sum_range_add, ← Fin.sum_univ_eq_sum_range, ← Fin.sum_univ_eq_sum_range]
  congr 1
  · refine sum_congr rfl fun j _ => ?_
    congr 1
    rw [eq_iff_iff]; omega
  · refine sum_congr rfl fun j _ => ?_
    congr 1
    rw [eq_iff_iff]; omega

/-- One lane of a head alone. -/
theorem sum_lane (b h : ℕ) (hb : b < 32) (hh : h < 4) (X : Fin 128 → EReal) :
    (∑ l : Fin 128, if l.val % 4 = h then (if l.val / 4 = b then X l else 0) else 0) = X ⟨4 * b + h, by omega⟩ := by
  rw [sum_eq_single (⟨4 * b + h, by omega⟩ : Fin 128)]
  · rw [if_pos (by dsimp only; omega), if_pos (by dsimp only; omega)]
  · intro l _ hne
    by_cases e : l.val % 4 = h
    · rw [if_pos e, if_neg fun e' => hne (Fin.ext (by dsimp only; omega))]
    · rw [if_neg e]
  · intro hn; exact absurd (mem_univ _) hn

end Cert.Attn

end
-- ==== Proof.Value.Spec.lean ====
/- One query's attention over a head's cached tokens and its new token. -/
module

public import Idealize.ShloMosaic.Lib.Pointwise

@[expose] public section

set_option maxRecDepth 16384

noncomputable section

namespace Cert.Attn

open Idealize.ShloMosaic

/-- The largest of the cached scores and the new one. -/
def peak (s : Fin 8192 → EReal) (sN : EReal) : EReal := max (Finset.univ.fold max ⊥ s) sN

/-- The values weighted by the exponentials of the scores less the largest, over the sum of the weights. -/
def attend (s : Fin 8192 → EReal) (sN : EReal) (v : Fin 8192 → EReal) (vN : EReal) : EReal :=
  Ideal.div ((∑ t, Ideal.exp (s t - peak s sN) * v t) + Ideal.exp (sN - peak s sN) * vN)
    ((∑ t, Ideal.exp (s t - peak s sN)) + Ideal.exp (sN - peak s sN))

/-- What bounds the largest score: what bounds them all. -/
theorem peak_le (s : Fin 8192 → EReal) (sN x : EReal) : peak s sN ≤ x ↔ (∀ t, s t ≤ x) ∧ sN ≤ x := by
  unfold peak
  rw [max_le_iff, Finset.fold_max_le]
  simp

end Cert.Attn

end
-- ==== Proof.Value.Attn.lean ====
/- The kernel's output over exact arithmetic: each query's attention over its head's tokens. -/
module

public import proofs.«01_k».proof.Proof.Value.Finish
public import proofs.«01_k».proof.Proof.Value.Reindex
public import proofs.«01_k».proof.Proof.Value.Spec

@[expose] public section

set_option maxRecDepth 16384

noncomputable section

namespace Cert.KernelIdeal.Run

open Cert.KernelIdeal Cert.KernelIdeal.Gen Cert.Attn
open Idealize.ShloMosaic

/-- What bounds the first loop's carried value: what bounds its start and the scores of the blocks so far in the lane. -/
theorem maxAt_le (x0 : Vec Ideal S4 .f32) (x2 : Vec Ideal S1x32x128 .f32) (x5 : Vec Ideal S1x32768x128 .fp8e4m3) (init : FVec Ideal S8x128 .f32)
    (g : Fin 8) (l : Fin 128) (x : EReal) : ∀ n, n ≤ 16 → (maxAt (kScale x0) (k0_pay32 x2) x5 init n (ix2 g l) ≤ x
      ↔ init (ix2 g l) ≤ x ∧ ∀ k, k < n → ∀ c : Fin 16, score x0 x2 x5 g (2048 * k + (128 * c.val + l.val)) ≤ x)
  | 0, _ => by simp [maxAt]
  | n + 1, hn => by
    have h : n < k0_t1_loop.trips := hn
    rw [maxAt, dif_pos h, maxStep_le, maxAt_le x0 x2 x5 init g l x n (by omega)]
    simp only [scoreBlk_chunk, and_assoc]
    refine and_congr_right fun _ => ⟨?_, ?_⟩
    · rintro ⟨h1, h2⟩ k hk c
      rcases Nat.lt_succ_iff_lt_or_eq.1 hk with hk | rfl
      · exact h1 k hk c
      · exact h2 c
    · intro h1
      exact ⟨fun k hk c => h1 k (by omega) c, fun c => h1 n (by omega) c⟩

/-- The new token's score for query `g` of head `h`. -/
def fresh (i : grid0.Coords) (x2 : Vec Ideal S1x32x128 .f32) (kn : Vec Ideal S128x128 .bf16) (h : Fin 4) (g : Fin 8) : EReal :=
  (∑ d : Fin 128, x2 (ix3 0 ⟨8 * h.val + g.val, by omega⟩ d) * kn (ix2 ⟨4 * (i 0).val + h.val, by have := (i 0).isLt; change _ < 16 at this; omega⟩ d)) * smScale

/-- The cached tokens' scores for query `g` of head `h`. -/
def cached (x0 : Vec Ideal S4 .f32) (x2 : Vec Ideal S1x32x128 .f32) (x5 : Vec Ideal S1x32768x128 .fp8e4m3) (h : Fin 4) (g : Fin 8) (t : Fin 8192) : EReal :=
  score x0 x2 x5 g (4 * t.val + h.val)

/-- A new token's lane has its score, the other tokens' lanes none. -/
theorem newScore_eq (i : grid0.Coords) (x2 : Vec Ideal S1x32x128 .f32) (kn : Vec Ideal S128x128 .bf16) (g : Fin 8) (l : Fin 128) :
    newScore i x2 kn (ix2 g l) = if l.val / 4 = (i 0).val then fresh i x2 kn ⟨l.val % 4, Nat.mod_lt _ (by decide)⟩ g else ⊥ := by
  rw [newScore_apply]
  split
  · next e =>
    unfold fresh
    have : ∀ hq, (⟨4 * (i 0).val + l.val % 4, hq⟩ : Fin 128) = l := fun _ => Fin.ext (by dsimp only; omega)
    simp only [this]
  · rfl

/-- The maximum per head is the largest of the head's scores. -/
theorem headMax_eq (i : grid0.Coords) (x0 : Vec Ideal S4 .f32) (x2 : Vec Ideal S1x32x128 .f32) (x5 : Vec Ideal S1x32768x128 .fp8e4m3) (kn : Vec Ideal S128x128 .bf16)
    (h : Fin 4) (g : Fin 8) (l : Fin 128) (hl : l.val % 4 = h.val) :
    headMax (laneMax i x0 x2 x5 kn) (ix2 g l) = peak (cached x0 x2 x5 h g) (fresh i x2 kn h g) := by
  have hi : (i 0).val < 16 := (i 0).isLt
  refine eq_of_forall_ge_iff fun x => ?_
  rw [headMax_apply, peak_le, Finset.fold_max_le]
  unfold laneMax
  constructor
  · rintro ⟨-, H⟩
    have H' : ∀ l' : Fin 128, l'.val % 4 = h.val → newScore i x2 kn (ix2 g l') ≤ x
        ∧ ∀ k, k < 16 → ∀ c : Fin 16, score x0 x2 x5 g (2048 * k + (128 * c.val + l'.val)) ≤ x := fun l' e => by
      have := H l' (Finset.mem_univ _)
      rw [if_pos (e.trans hl.symm)] at this
      exact (maxAt_le x0 x2 x5 _ g l' x 16 le_rfl).1 this
    refine ⟨fun t => ?_, ?_⟩
    · have := (H' ⟨(4 * t.val + h.val) % 128, Nat.mod_lt _ (by decide)⟩ (by dsimp only; omega)).2 ((4 * t.val + h.val) / 2048) (by omega)
        ⟨(4 * t.val + h.val) / 128 % 16, Nat.mod_lt _ (by decide)⟩
      have e : 2048 * ((4 * t.val + h.val) / 2048) + (128 * ((4 * t.val + h.val) / 128 % 16) + (4 * t.val + h.val) % 128) = 4 * t.val + h.val := by omega
      dsimp only at this
      rw [e] at this
      exact this
    · have := (H' ⟨4 * (i 0).val + h.val, by omega⟩ (by dsimp only; omega)).1
      rw [newScore_eq, if_pos (by dsimp only; omega)] at this
      have e : ∀ hq, (⟨(4 * (i 0).val + h.val) % 4, hq⟩ : Fin 4) = h := fun _ => Fin.ext (by dsimp only; omega)
      dsimp only at this
      rw [e] at this
      exact this
  · rintro ⟨H1, H2⟩
    refine ⟨bot_le, fun l' _ => ?_⟩
    split
    · next e =>
      refine (maxAt_le x0 x2 x5 _ g l' x 16 le_rfl).2 ⟨?_, fun k hk c => ?_⟩
      · rw [newScore_eq]
        split
        · have e' : ∀ hq, (⟨l'.val % 4, hq⟩ : Fin 4) = h := fun _ => Fin.ext (by dsimp only; omega)
          rw [e']; exact H2
        · exact bot_le
      · have := H1 ⟨(2048 * k + (128 * c.val + l'.val)) / 4, by omega⟩
        unfold cached at this
        have e' : 4 * ((2048 * k + (128 * c.val + l'.val)) / 4) + h.val = 2048 * k + (128 * c.val + l'.val) := by omega
        dsimp only at this
        rw [e'] at this
        exact this
    · exact bot_le

/-- The weight of cached row `n` for query `g`, the largest score being `M`. -/
def weight (x0 : Vec Ideal S4 .f32) (x2 : Vec Ideal S1x32x128 .f32) (x5 : Vec Ideal S1x32768x128 .fp8e4m3) (g : Fin 8) (M : EReal) (n : ℕ) : EReal :=
  Ideal.exp (score x0 x2 x5 g n - M)

section loop
variable (x0 x1 : Vec Ideal S4 .f32) (x2 : Vec Ideal S1x32x128 .f32) (x5 x6 : Vec Ideal S1x32768x128 .fp8e4m3) (mx : FVec Ideal S8x128 .f32)
  (init : FVec Ideal S8x128 .f32 × FVec Ideal S64x256 .f32) (h : Fin 4) (g : Fin 8) (M : EReal)
  (hM : ∀ l : Fin 128, l.val % 4 = h.val → mx (ix2 g l) = M)

/-- A block's weights in the columns of one head. -/
theorem pay17_chunk (hM : ∀ l : Fin 128, l.val % 4 = h.val → mx (ix2 g l) = M) (k : Fin k0_t1_loop.trips) (j : Fin 2048) (hj : j.val % 4 = h.val) :
    k0_pay17 mx (scoreBlk (kScale x0) (k0_pay32 x2) (chunkK x5 k)) (ix2 g j) = weight x0 x2 x5 g M (2048 * k.val + j.val) := by
  rw [pay17_apply, scoreBlk_chunk, hM _ (by dsimp only; omega)]
  rfl

/-- The second loop's sum of weights in a lane of head `h`. -/
theorem sumAt_fst (hM : ∀ l : Fin 128, l.val % 4 = h.val → mx (ix2 g l) = M) (l : Fin 128) (hl : l.val % 4 = h.val) : ∀ n, n ≤ 16 →
    (sumAt (vScale x1) mx x6 (fun k => scoreBlk (kScale x0) (k0_pay32 x2) (chunkK x5 (toTrip1 k))) init n).1 (ix2 g l)
      = init.1 (ix2 g l) + ∑ k ∈ Finset.range n, ∑ c : Fin 16, weight x0 x2 x5 g M (2048 * k + (128 * c.val + l.val))
  | 0, _ => by simp [sumAt]
  | n + 1, hn => by
    have h' : n < k0_t2_loop.trips := hn
    rw [sumAt, dif_pos h', sumStep_fst, sumAt_fst hM l hl n (by omega), Finset.sum_range_succ, add_assoc]
    congr 2
    refine Finset.sum_congr rfl fun c _ => ?_
    exact pay17_chunk x0 x2 x5 mx h g M hM (toTrip1 ⟨n, h'⟩) ⟨128 * c.val + l.val, by omega⟩ (by dsimp only; omega)

/-- The cached value of row `n`, dequantised. -/
def valueAt (n : ℕ) (d : Fin 128) : EReal := x6 (ix3 0 (row n) d) * word x1 ⟨n % 4, Nat.mod_lt _ (by decide)⟩

/-- The second loop's weighted values: the upper rows. -/
theorem sumAt_lo (hM : ∀ l : Fin 128, l.val % 4 = h.val → mx (ix2 g l) = M) (d : Fin 128) : ∀ n, n ≤ 16 →
    (sumAt (vScale x1) mx x6 (fun k => scoreBlk (kScale x0) (k0_pay32 x2) (chunkK x5 (toTrip1 k))) init n).2 (ix2 ⟨8 * h.val + g.val, by omega⟩ ⟨d.val, by omega⟩)
      = init.2 (ix2 ⟨8 * h.val + g.val, by omega⟩ ⟨d.val, by omega⟩) + ∑ k ∈ Finset.range n, ∑ j : Fin 1024,
        if j.val % 4 = h.val then weight x0 x2 x5 g M (2048 * k + j.val) * valueAt x1 x6 (2048 * k + j.val) d else 0
  | 0, _ => by simp [sumAt]
  | n + 1, hn => by
    have h' : n < k0_t2_loop.trips := hn
    rw [sumAt, dif_pos h', sumStep_lo, sumAt_lo hM d n (by omega), Finset.sum_range_succ, add_assoc]
    congr 2
    refine Finset.sum_congr rfl fun j _ => ?_
    by_cases e : j.val % 4 = h.val
    · rw [if_pos e, if_pos e, pay16_lo x1 _ j d.val d.isLt, chunkV_apply,
        show _ = weight x0 x2 x5 g M (2048 * n + j.val) from pay17_chunk x0 x2 x5 mx h g M hM (toTrip1 ⟨n, h'⟩) ⟨j.val, by omega⟩ e]
      have e' : (2048 * n + j.val) % 4 = j.val % 4 := by omega
      unfold valueAt
      simp only [e']
    · rw [if_neg e, if_neg e, zero_mul]

/-- The second loop's weighted values: the lower rows. -/
theorem sumAt_hi (hM : ∀ l : Fin 128, l.val % 4 = h.val → mx (ix2 g l) = M) (d : Fin 128) : ∀ n, n ≤ 16 →
    (sumAt (vScale x1) mx x6 (fun k => scoreBlk (kScale x0) (k0_pay32 x2) (chunkK x5 (toTrip1 k))) init n).2 (ix2 ⟨32 + (8 * h.val + g.val), by omega⟩ ⟨128 + d.val, by omega⟩)
      = init.2 (ix2 ⟨32 + (8 * h.val + g.val), by omega⟩ ⟨128 + d.val, by omega⟩) + ∑ k ∈ Finset.range n, ∑ j : Fin 1024,
        if j.val % 4 = h.val then weight x0 x2 x5 g M (2048 * k + (1024 + j.val)) * valueAt x1 x6 (2048 * k + (1024 + j.val)) d else 0
  | 0, _ => by simp [sumAt]
  | n + 1, hn => by
    have h' : n < k0_t2_loop.trips := hn
    rw [sumAt, dif_pos h', sumStep_hi, sumAt_hi hM d n (by omega), Finset.sum_range_succ, add_assoc]
    congr 2
    refine Finset.sum_congr rfl fun j _ => ?_
    by_cases e : j.val % 4 = h.val
    · rw [if_pos e, if_pos e, pay16_hi x1 _ j d.val d.isLt, chunkV_apply,
        show _ = weight x0 x2 x5 g M (2048 * n + (1024 + j.val)) from pay17_chunk x0 x2 x5 mx h g M hM (toTrip1 ⟨n, h'⟩) ⟨1024 + j.val, by omega⟩ (by dsimp only; omega)]
      have e' : (2048 * n + (1024 + j.val)) % 4 = j.val % 4 := by omega
      unfold valueAt
      simp only [e']
    · rw [if_neg e, if_neg e, zero_mul]

end loop

/-- The new token's weight in its lane; the other lanes' weights vanish. -/
theorem newWeight_eq (i : grid0.Coords) (x0 : Vec Ideal S4 .f32) (x2 : Vec Ideal S1x32x128 .f32) (x5 : Vec Ideal S1x32768x128 .fp8e4m3) (kn : Vec Ideal S128x128 .bf16)
    (h : Fin 4) (g : Fin 8) (l : Fin 128) (hl : l.val % 4 = h.val) :
    newWeight (newScore i x2 kn) (laneMax i x0 x2 x5 kn) (ix2 g l)
      = if l.val / 4 = (i 0).val then Ideal.exp (fresh i x2 kn h g - peak (cached x0 x2 x5 h g) (fresh i x2 kn h g)) else 0 := by
  have e' : ∀ hq, (⟨l.val % 4, hq⟩ : Fin 4) = h := fun _ => Fin.ext hl
  rw [newWeight_apply, newScore_eq, headMax_eq i x0 x2 x5 kn h g l hl, e']
  split
  · rfl
  · rw [EReal.bot_sub]; rfl

/-- A query's output is its attention over its head's cached tokens and its new token. -/
theorem attn_apply (i : grid0.Coords) (x0 x1 : Vec Ideal S4 .f32) (x2 : Vec Ideal S1x32x128 .f32) (x5 x6 : Vec Ideal S1x32768x128 .fp8e4m3) (kn vn : Vec Ideal S128x128 .bf16)
    (h : Fin 4) (g : Fin 8) (d : Fin 128) :
    attn i x0 x1 x2 x5 x6 kn vn (ix3 0 ⟨8 * h.val + g.val, by omega⟩ d)
      = attend (cached x0 x2 x5 h g) (fresh i x2 kn h g) (fun t => valueAt x1 x6 (4 * t.val + h.val) d)
          (vn (ix2 ⟨4 * (i 0).val + h.val, by have := (i 0).isLt; change _ < 16 at this; omega⟩ d)) := by
  have hi : (i 0).val < 16 := (i 0).isLt
  have hM := fun l hl => headMax_eq i x0 x2 x5 kn h g l hl
  have hz : ∀ y, (k0_pay49 (F := Ideal)) y = 0 := fun y => Ideal.ofBits_zero_f32
  unfold attn attend
  rw [finish_apply]
  rw [show sums i x0 x1 x2 x5 x6 kn = sumAt (vScale x1) (headMax (laneMax i x0 x2 x5 kn)) x6 (fun k => scoreBlk (kScale x0) (k0_pay32 x2) (chunkK x5 (toTrip1 k)))
    (newWeight (newScore i x2 kn) (laneMax i x0 x2 x5 kn), k0_pay49) 16 from rfl, sumAt_lo x0 x1 x2 x5 x6 _ _ h g _ hM d 16 le_rfl, sumAt_hi x0 x1 x2 x5 x6 _ _ h g _ hM d 16 le_rfl]
  dsimp only
  rw [hz, hz, zero_add, zero_add, add_assoc,
    sum_halves h.val h.isLt (fun n => weight x0 x2 x5 g (peak (cached x0 x2 x5 h g) (fresh i x2 kn h g)) n * valueAt x1 x6 n d), add_comm]
  congr 1
  · congr 1
    rw [← sum_lane (i 0).val h.val (by omega) h.isLt
      (fun l => Ideal.exp (fresh i x2 kn h g - peak (cached x0 x2 x5 h g) (fresh i x2 kn h g)) * vn (ix2 l d))]
    refine Finset.sum_congr rfl fun l _ => ?_
    rw [newWeight'_apply]
    by_cases e : l.val % 4 = h.val
    · rw [if_pos e, if_pos e, newWeight_eq i x0 x2 x5 kn h g l e, ite_mul, zero_mul]
    · rw [if_neg e, if_neg e, zero_mul]
  · refine Eq.trans ?_ (congrArg₂ (· + ·) (sum_lanes h.val h.isLt (fun n => weight x0 x2 x5 g (peak (cached x0 x2 x5 h g) (fresh i x2 kn h g)) n))
      (sum_lane (i 0).val h.val (by omega) h.isLt (fun _ => Ideal.exp (fresh i x2 kn h g - peak (cached x0 x2 x5 h g) (fresh i x2 kn h g)))))
    dsimp only
    rw [← Finset.sum_add_distrib]
    refine Finset.sum_congr rfl fun l _ => ?_
    by_cases e : l.val % 4 = h.val
    · rw [if_pos e, if_pos e, if_pos e, sumAt_fst x0 x1 x2 x5 x6 _ _ h g _ hM l e 16 le_rfl]
      dsimp only
      rw [newWeight_eq i x0 x2 x5 kn h g l e, add_comm]
    · rw [if_neg e, if_neg e, if_neg e, add_zero]

end Cert.KernelIdeal.Run

end
-- ==== Proof.Value.Target.lean ====
/- One entry of the attention of a decoding step, as an expression in the entries it depends on. -/
module

public import proofs.«01_k».proof.Proof.Value.Spec
public import proofs.«01_k».proof.Proof.Value.Scores

@[expose] public section

set_option maxRecDepth 16384

noncomputable section

namespace Cert.Attn

open Cert.KernelIdeal.Run (quant smScale)
open Idealize.ShloMosaic

/-- Equal scores and values have equal attention. -/
theorem attend_congr {s s' v v' : Fin 8192 → EReal} {sN sN' vN vN' : EReal} (hs : s = s') (hn : sN = sN') (hv : v = v') (hw : vN = vN') :
    attend s sN v vN = attend s' sN' v' vN' := by subst hs hn hv hw; rfl

/-- One entry of one query's attention: `q` is the query, `kc` and `kn` its head's cached and new keys, `vc` and `vn` the
    entry's column of the cached and new values, `sk` and `sv` the head's two scales. The new row is quantised first. -/
def target (q : Fin 128 → EReal) (kc : Fin 8192 → Fin 128 → EReal) (kn : Fin 128 → EReal) (vc : Fin 8192 → EReal) (vn sk sv : EReal) : EReal :=
  attend (fun t => (∑ d, q d * (kc t d * sk)) * smScale) ((∑ d, q d * (quant (kn d) sk * sk)) * smScale) (fun t => vc t * sv) (quant vn sv * sv)

end Cert.Attn

end
-- ==== Proof.Value.KEntry.lean ====
/- The entries of the kernel's results, as expressions in the entries of its arguments. -/
module

public import proofs.«01_k».proof.Proof.Value.KRead
public import proofs.«01_k».proof.Proof.Value.Attn
public import proofs.«01_k».proof.Proof.Value.Finish
public import proofs.«01_k».proof.Proof.Value.Target

@[expose] public section

set_option maxRecDepth 16384

noncomputable section

namespace Cert.KernelIdeal.Run

open Cert.KernelIdeal Cert.KernelIdeal.Gen Cert.Attn
open Idealize.ShloMosaic Idealize.ShloMosaic.TcCoe

variable (m : (ℓ : Loc nD τ sig) → Buf (Elt Ideal) ℓ)

/-- Query `g` of head `h` of sequence `b` is row `8h + g` of the block of queries. -/
theorem query_at (c : Dev nD) (b : Fin 16) (h : Fin 4) (g : Fin 8) (d : Fin 128) (r : Fin 32) (e : r.val = 8 * h.val + g.val) :
    iblk m c 2 (ptOf b) (ix3 0 r d) = m ((c : Thread nD τ).loc main_arg0) (ix3 b 0 ⟨128 * (8 * h.val + g.val) + d.val, by omega⟩) := by
  rw [iblk2_eq]
  show shapeCast S16x32x128 _ shapeCasts_S16x1x4096_S16x32x128 (ix3 b r d) = _
  generalize m ((c : Thread nD τ).loc main_arg0) = y
  pointwise
  congr 2
  first | omega | (apply Fin.ext; dsimp only; omega)

/-- The key of token `t` and head `h` of sequence `b` is row `4t + h` of the block of keys. -/
theorem key_at (c : Dev nD) (b : Fin 16) (t : Fin 8192) (h : Fin 4) (d : Fin 128) (r : Fin 32768) (e : r.val = 4 * t.val + h.val) :
    iblk m c 5 (ptOf b) (ix3 0 r d) = m ((c : Thread nD τ).loc main_arg3) (ix4 b t h d) := by
  rw [iblk5_eq]
  show shapeCast S16x32768x128 _ shapeCasts_S16x8192x4x128_S16x32768x128 (ix3 b r d) = _
  generalize m ((c : Thread nD τ).loc main_arg3) = y
  pointwise
  congr 1
  have e1 : ∀ q, (⟨r.val / 4, q⟩ : Fin 8192) = t := fun q => Fin.ext (by dsimp only; omega)
  have e2 : ∀ q, (⟨r.val % 4, q⟩ : Fin 4) = h := fun q => Fin.ext (by dsimp only; omega)
  rw [e1, e2]

/-- The value of token `t` and head `h` of sequence `b` is row `4t + h` of the block of values. -/
theorem value_at (c : Dev nD) (b : Fin 16) (t : Fin 8192) (h : Fin 4) (d : Fin 128) (r : Fin 32768) (e : r.val = 4 * t.val + h.val) :
    iblk m c 6 (ptOf b) (ix3 0 r d) = m ((c : Thread nD τ).loc main_arg5) (ix4 b t h d) := by
  rw [iblk6_eq]
  show shapeCast S16x32768x128 _ shapeCasts_S16x8192x4x128_S16x32768x128 (ix3 b r d) = _
  generalize m ((c : Thread nD τ).loc main_arg5) = y
  pointwise
  congr 1
  have e1 : ∀ q, (⟨r.val / 4, q⟩ : Fin 8192) = t := fun q => Fin.ext (by dsimp only; omega)
  have e2 : ∀ q, (⟨r.val % 4, q⟩ : Fin 4) = h := fun q => Fin.ext (by dsimp only; omega)
  rw [e1, e2]

/-- The new rows of the batch, listed: head `h` of sequence `b` is row `4b + h`. -/
theorem rows_at (y : FVec Ideal S16x1x4x128 .f32) (b : Fin 16) (h : Fin 4) (d : Fin 128) (r : Fin 64) (e : r.val = 4 * b.val + h.val) :
    shapeCast S64x128 y shapeCasts_S16x1x4x128_S64x128 (ix2 r d) = y (ix4 b 0 h d) := by
  pointwise
  have e1 : ∀ q, (⟨r.val / 4, q⟩ : Fin 16) = b := fun q => Fin.ext (by dsimp only; omega)
  have e2 : ∀ q, (⟨r.val % 4, q⟩ : Fin 4) = h := fun q => Fin.ext (by dsimp only; omega)
  rw [e1, e2]

/-- The new key of head `h` of sequence `b` is row `4b + h` of the new keys. -/
theorem new_key_at (c : Dev nD) (p : Fin cfg0.N) (b : Fin 16) (h : Fin 4) (d : Fin 128) (r : Fin 64) (e : r.val = 4 * b.val + h.val) :
    iblk m c 3 p (ix2 r d) = m ((c : Thread nD τ).loc main_arg1) (ix4 b 0 h d) :=
  (congrFun (iblk3_eq m c p) (ix2 r d)).trans (rows_at _ b h d r e)

/-- The new value of head `h` of sequence `b` is row `4b + h` of the new values. -/
theorem new_value_at (c : Dev nD) (p : Fin cfg0.N) (b : Fin 16) (h : Fin 4) (d : Fin 128) (r : Fin 64) (e : r.val = 4 * b.val + h.val) :
    iblk m c 4 p (ix2 r d) = m ((c : Thread nD τ).loc main_arg2) (ix4 b 0 h d) :=
  (congrFun (iblk4_eq m c p) (ix2 r d)).trans (rows_at _ b h d r e)

/-- The key scale of a head. -/
theorem key_scale_at (c : Dev nD) (p : Fin cfg0.N) (h j : Fin 4) (e : j.val = h.val) : word (iblk m c 0 p) j = m ((c : Thread nD τ).loc main_arg4) (ValueIdx.ix1 h) := by
  rw [iblk0_eq, Fin.ext e]
  rfl

/-- The value scale of a head. -/
theorem value_scale_at (c : Dev nD) (p : Fin cfg0.N) (h j : Fin 4) (e : j.val = h.val) : word (iblk m c 1 p) j = m ((c : Thread nD τ).loc main_arg6) (ValueIdx.ix1 h) := by
  rw [iblk1_eq, Fin.ext e]
  rfl

/-- A new key's code. -/
theorem kCodes_apply (c : Dev nD) (b : Fin 16) (h : Fin 4) (d : Fin 128) (r : Fin 64) (e : r.val = 4 * b.val + h.val) :
    kCodes m c (ix2 r d) = quant (m ((c : Thread nD τ).loc main_arg1) (ix4 b 0 h d)) (m ((c : Thread nD τ).loc main_arg4) (ValueIdx.ix1 h)) := by
  unfold kCodes
  rw [kCode_apply, new_key_at m c pt0 b h d r e, key_scale_at m c pt0 h _ (by dsimp only; omega)]

/-- A new key, quantised and scaled back. -/
theorem kNewAt_apply (c : Dev nD) (b : Fin 16) (h : Fin 4) (d : Fin 128) (r : Fin 128) (e : r.val = 4 * b.val + h.val) :
    kNewAt m c (ix2 r d) = quant (m ((c : Thread nD τ).loc main_arg1) (ix4 b 0 h d)) (m ((c : Thread nD τ).loc main_arg4) (ValueIdx.ix1 h)) * m ((c : Thread nD τ).loc main_arg4) (ValueIdx.ix1 h) := by
  unfold kNewAt
  rw [kNew_apply _ _ r (by omega), new_key_at m c pt0 b h d _ e, key_scale_at m c pt0 h _ (by dsimp only; omega)]

/-- A new value's code. -/
theorem vCodes_apply (c : Dev nD) (b : Fin 16) (h : Fin 4) (d : Fin 128) (r : Fin 64) (e : r.val = 4 * b.val + h.val) :
    vCodes m c (ix2 r d) = quant (m ((c : Thread nD τ).loc main_arg2) (ix4 b 0 h d)) (m ((c : Thread nD τ).loc main_arg6) (ValueIdx.ix1 h)) := by
  unfold vCodes
  rw [vCode_apply, new_value_at m c pt0 b h d r e, value_scale_at m c pt0 h _ (by dsimp only; omega)]

/-- A new value, quantised and scaled back. -/
theorem vNewAt_apply (c : Dev nD) (b : Fin 16) (h : Fin 4) (d : Fin 128) (r : Fin 128) (e : r.val = 4 * b.val + h.val) :
    vNewAt m c (ix2 r d) = quant (m ((c : Thread nD τ).loc main_arg2) (ix4 b 0 h d)) (m ((c : Thread nD τ).loc main_arg6) (ValueIdx.ix1 h)) * m ((c : Thread nD τ).loc main_arg6) (ValueIdx.ix1 h) := by
  unfold vNewAt
  rw [vNew_apply _ _ r (by omega), new_value_at m c pt0 b h d _ e, value_scale_at m c pt0 h _ (by dsimp only; omega)]

/-- An entry of the attention of the whole batch. -/
theorem yArr_apply (c : Dev nD) (b : Fin 16) (h : Fin 4) (g : Fin 8) (d : Fin 128) :
    yArr m c (ix3 b ⟨8 * h.val + g.val, by omega⟩ d)
      = target (fun d => m ((c : Thread nD τ).loc main_arg0) (ix3 b 0 ⟨128 * (8 * h.val + g.val) + d.val, by omega⟩)) (fun t d => m ((c : Thread nD τ).loc main_arg3) (ix4 b t h d)) (fun d => m ((c : Thread nD τ).loc main_arg1) (ix4 b 0 h d))
          (fun t => m ((c : Thread nD τ).loc main_arg5) (ix4 b t h d)) (m ((c : Thread nD τ).loc main_arg2) (ix4 b 0 h d)) (m ((c : Thread nD τ).loc main_arg4) (ValueIdx.ix1 h)) (m ((c : Thread nD τ).loc main_arg6) (ValueIdx.ix1 h)) := by
  have hb : (grid0.coords (ptOf b) 0).val = b.val := coords_val (ptOf b)
  show outAt m c (ptOf b) (ix3 0 ⟨8 * h.val + g.val, _⟩ d) = _
  unfold outAt
  rw [attn_apply]
  unfold target
  have hm : ∀ t : Fin 8192, (4 * t.val + h.val) % 4 = h.val := fun t => by omega
  refine attend_congr (funext fun t => ?_) ?_ (funext fun t => ?_) ?_
  · unfold cached score
    refine congrArg (· * smScale) (Finset.sum_congr rfl fun k _ => ?_)
    rw [query_at m c b h g k _ (by dsimp only; rw [hm]), key_at m c b t h k _ (by show (4 * t.val + h.val) % 32768 = _; omega), key_scale_at m c _ h _ (hm t)]
  · unfold fresh
    refine congrArg (· * smScale) (Finset.sum_congr rfl fun k _ => ?_)
    rw [query_at m c b h g k _ rfl, kNewAt_apply m c b h k _ (by dsimp only; rw [hb])]
  · unfold valueAt
    rw [value_at m c b t h d _ (by show (4 * t.val + h.val) % 32768 = _; omega), value_scale_at m c _ h _ (hm t)]
  · exact vNewAt_apply m c b h d _ (by dsimp only; rw [hb])

/-- An entry of the first result. -/
theorem v6_apply (c : Dev nD) (b : Fin 16) (h : Fin 4) (g : Fin 8) (d : Fin 128) (l : Fin 4096) (e : l.val = 128 * (8 * h.val + g.val) + d.val) :
    shapeCast S16x1x4096 (yArr m c) shapeCasts_S16x32x128_S16x1x4096 (ix3 b 0 l)
      = target (fun d => m ((c : Thread nD τ).loc main_arg0) (ix3 b 0 ⟨128 * (8 * h.val + g.val) + d.val, by omega⟩)) (fun t d => m ((c : Thread nD τ).loc main_arg3) (ix4 b t h d)) (fun d => m ((c : Thread nD τ).loc main_arg1) (ix4 b 0 h d))
          (fun t => m ((c : Thread nD τ).loc main_arg5) (ix4 b t h d)) (m ((c : Thread nD τ).loc main_arg2) (ix4 b 0 h d)) (m ((c : Thread nD τ).loc main_arg4) (ValueIdx.ix1 h)) (m ((c : Thread nD τ).loc main_arg6) (ValueIdx.ix1 h)) := by
  rw [← yArr_apply m c b h g d]
  generalize yArr m c = y
  pointwise
  have e1 : ∀ q, (⟨l.val / 128, q⟩ : Fin 32) = ⟨8 * h.val + g.val, by omega⟩ := fun q => Fin.ext (by dsimp only; omega)
  have e2 : ∀ q, (⟨l.val % 128, q⟩ : Fin 128) = d := fun q => Fin.ext (by dsimp only; omega)
  rw [e1, e2]

/-- An entry of the second result. -/
theorem v7_apply (c : Dev nD) (b : Fin 16) (h : Fin 4) (d : Fin 128) :
    shapeCast S16x1x4x128 (kCodes m c) shapeCasts_S64x128_S16x1x4x128 (ix4 b 0 h d) = quant (m ((c : Thread nD τ).loc main_arg1) (ix4 b 0 h d)) (m ((c : Thread nD τ).loc main_arg4) (ValueIdx.ix1 h)) := by
  rw [← kCodes_apply m c b h d ⟨4 * b.val + h.val, by omega⟩ rfl]
  generalize kCodes m c = y
  pointwise
  congr 2
  first | omega | (apply Fin.ext; dsimp only; omega)

/-- An entry of the third result. -/
theorem v8_apply (c : Dev nD) (b : Fin 16) (h : Fin 4) (d : Fin 128) :
    shapeCast S16x1x4x128 (vCodes m c) shapeCasts_S64x128_S16x1x4x128 (ix4 b 0 h d) = quant (m ((c : Thread nD τ).loc main_arg2) (ix4 b 0 h d)) (m ((c : Thread nD τ).loc main_arg6) (ValueIdx.ix1 h)) := by
  rw [← vCodes_apply m c b h d ⟨4 * b.val + h.val, by omega⟩ rfl]
  generalize vCodes m c = y
  pointwise
  congr 2
  first | omega | (apply Fin.ext; dsimp only; omega)

end Cert.KernelIdeal.Run

end
-- ==== Proof.Value.RefPay.lean ====
/- The reference's arithmetic over exact numbers, entry by entry. -/
module

public import proofs.«01_k».proof.Proof.Gen.ReferenceIdeal.Frame
public import proofs.«01_k».proof.Proof.Value.Scores
public import proofs.«01_k».proof.Proof.Value.Spec

@[expose] public section

set_option maxRecDepth 16384

noncomputable section

namespace Cert.ReferenceIdeal.Val

open Cert.ReferenceIdeal Cert.ReferenceIdeal.Gen Cert.Attn
open Cert.KernelIdeal.Run (quant smScale)
open Idealize.ShloMosaic

/-- A table's four scales laid along the heads' axis of a four-axis array. -/
def scales (x : Vec Ideal S4 .f32) : FVec Ideal S1x1x4x1 .f32 :=
  k0_pay2 (x (ValueIdx.ix1 0)) (x (ValueIdx.ix1 1)) (x (ValueIdx.ix1 2)) (x (ValueIdx.ix1 3))

/-- The codes of the new rows. -/
def codes (x : Vec Ideal S4 .f32) (n : Vec Ideal S16x1x4x128 .f32) : FVec Ideal S16x1x4x128 .fp8e4m3 :=
  k0_pay4 (x (ValueIdx.ix1 0)) (x (ValueIdx.ix1 1)) (x (ValueIdx.ix1 2)) (x (ValueIdx.ix1 3)) n

/-- The scale of a head. -/
theorem scales_apply (x : Vec Ideal S4 .f32) (h : Fin 4) : scales x (ix4 0 0 h 0) = x (ValueIdx.ix1 h) := by
  pointwise [scales, k0_pay2]
  fin_cases h <;> rfl

/-- The code of an entry of a new row. -/
theorem codes_apply (x : Vec Ideal S4 .f32) (n : Vec Ideal S16x1x4x128 .f32) (b : Fin 16) (h : Fin 4) (d : Fin 128) :
    codes x n (ix4 b 0 h d) = quant (n (ix4 b 0 h d)) (x (ValueIdx.ix1 h)) := by
  rw [← scales_apply x h]
  pointwise [codes, k0_pay4, scales, quant]

/-- The cached values, scaled. -/
theorem values_apply (x : Vec Ideal S4 .f32) (vc : Vec Ideal S16x8192x4x128 .fp8e4m3) (b : Fin 16) (t : Fin 8192) (h : Fin 4) (d : Fin 128) :
    k0_pay7 (scales x) vc (ix4 b t h d) = vc (ix4 b t h d) * x (ValueIdx.ix1 h) := by
  rw [← scales_apply x h]
  pointwise [k0_pay7]

/-- The new values, scaled. -/
theorem newValues_apply (x : Vec Ideal S4 .f32) (n : FVec Ideal S16x1x4x128 .fp8e4m3) (b : Fin 16) (h : Fin 4) (d : Fin 128) :
    k0_pay8 (scales x) n (ix4 b 0 h d) = n (ix4 b 0 h d) * x (ValueIdx.ix1 h) := by
  rw [← scales_apply x h]
  pointwise [k0_pay8]

/-- The score of a cached key for a query of its head. -/
def rScore (x : Vec Ideal S4 .f32) (q : Vec Ideal S16x4x8x128 .f32) (kc : Vec Ideal S16x8192x4x128 .fp8e4m3) (b : Fin 16) (h : Fin 4) (g : Fin 8) (t : Fin 8192) : EReal :=
  (∑ d : Fin 128, q (ix4 b h g d) * (kc (ix4 b t h d) * x (ValueIdx.ix1 h))) * smScale

/-- The score of the new key for a query of its head. -/
def rFresh (x : Vec Ideal S4 .f32) (q : Vec Ideal S16x4x8x128 .f32) (n : Vec Ideal S16x1x4x128 .fp8e4m3) (b : Fin 16) (h : Fin 4) (g : Fin 8) : EReal :=
  (∑ d : Fin 128, q (ix4 b h g d) * (n (ix4 b 0 h d) * x (ValueIdx.ix1 h))) * smScale

/-- The score of a cached key. -/
theorem pay9_apply (x : Vec Ideal S4 .f32) (q : Vec Ideal S16x4x8x128 .f32) (kc : Vec Ideal S16x8192x4x128 .fp8e4m3) (b : Fin 16) (h : Fin 4) (g : Fin 8) (t : Fin 8192) :
    k0_pay9 (scales x) q kc (ix4 b h g t) = rScore x q kc b h g t := by
  unfold rScore
  rw [← scales_apply x h]
  pointwise [k0_pay9, k0_pay6, smScale]

/-- The score of the new key. -/
theorem pay10_apply (x : Vec Ideal S4 .f32) (q : Vec Ideal S16x4x8x128 .f32) (n : FVec Ideal S16x1x4x128 .fp8e4m3) (b : Fin 16) (h : Fin 4) (g : Fin 8) :
    k0_pay10 (scales x) n q (ix4 b h g 0) = rFresh x q n b h g := by
  unfold rFresh
  rw [← scales_apply x h]
  pointwise [k0_pay10, k0_pay6, smScale]

/-- A maximum along the last of four axes, of any length. -/
theorem maxLast (n : ℕ) (v : FVec Ideal ⟨4, ![16, 4, 8, n]⟩ .f32) (hr : (⟨4, ![16, 4, 8, n]⟩ : Shape).Reduces [3] S16x4x8) (hφ : FKind.Formats .f32)
    (hacc : (0xFF800000#32 : BitVec 32) = FKind.maximumf.neutral .f32 hφ) (b : Fin 16) (h : Fin 4) (g : Fin 8) :
    multiReduction .maximumf [3] S16x4x8 v 0xFF800000#32 hr hφ hacc (ix3 b h g) = Finset.univ.fold max ⊥ (fun t : Fin n => v (ix4 b h g t)) := by
  have e : Ideal.ofBits .f32 0xFF800000#32 = ⊥ := by simp [Ideal.ofBits, Ideal.ieee]
  pointwise
  rw [e]

/-- The larger of a three-axis array given a last axis of one and a four-axis array. -/
theorem maxCast (w : FVec Ideal S16x4x8 .f32) (z : FVec Ideal S16x4x8x1 .f32) (hc : S16x4x8.ShapeCasts S16x4x8x1) (b : Fin 16) (h : Fin 4) (g : Fin 8) :
    maximumf (shapeCast S16x4x8x1 w hc) z (ix4 b h g 0) = max (w (ix3 b h g)) (z (ix4 b h g 0)) := by
  pointwise

/-- The largest score. -/
theorem pay11_apply (x : Vec Ideal S4 .f32) (q : Vec Ideal S16x4x8x128 .f32) (kc : Vec Ideal S16x8192x4x128 .fp8e4m3) (n : FVec Ideal S16x1x4x128 .fp8e4m3) (b : Fin 16) (h : Fin 4) (g : Fin 8) :
    k0_pay11 (scales x) n q kc (ix4 b h g 0) = peak (rScore x q kc b h g) (rFresh x q n b h g) := by
  unfold k0_pay11 peak
  refine (maxCast _ _ _ b h g).trans ?_
  rw [pay10_apply]
  refine congrArg (fun y => max y (rFresh x q n b h g)) ?_
  refine (maxLast 8192 _ _ _ _ b h g).trans ?_
  simp only [pay9_apply]

/-- A cached token's weight. -/
theorem pay12_apply (x : Vec Ideal S4 .f32) (q : Vec Ideal S16x4x8x128 .f32) (kc : Vec Ideal S16x8192x4x128 .fp8e4m3) (n : FVec Ideal S16x1x4x128 .fp8e4m3) (b : Fin 16) (h : Fin 4) (g : Fin 8) (t : Fin 8192) :
    k0_pay12 (scales x) n q kc (ix4 b h g t) = Ideal.exp (rScore x q kc b h g t - peak (rScore x q kc b h g) (rFresh x q n b h g)) := by
  pointwise [k0_pay12]
  simp only [pay9_apply, pay11_apply]

/-- The new token's weight. -/
theorem pay13_apply (x : Vec Ideal S4 .f32) (q : Vec Ideal S16x4x8x128 .f32) (kc : Vec Ideal S16x8192x4x128 .fp8e4m3) (n : FVec Ideal S16x1x4x128 .fp8e4m3) (b : Fin 16) (h : Fin 4) (g : Fin 8) :
    k0_pay13 (scales x) n q kc (ix4 b h g 0) = Ideal.exp (rFresh x q n b h g - peak (rScore x q kc b h g) (rFresh x q n b h g)) := by
  pointwise [k0_pay13]
  simp only [pay10_apply, pay11_apply]

/-- The cached tokens' weights together. -/
theorem pay14_apply (x : Vec Ideal S4 .f32) (q : Vec Ideal S16x4x8x128 .f32) (kc : Vec Ideal S16x8192x4x128 .fp8e4m3) (n : FVec Ideal S16x1x4x128 .fp8e4m3) (b : Fin 16) (h : Fin 4) (g : Fin 8) :
    k0_pay14 (scales x) n q kc (ix3 b h g) = ∑ t, Ideal.exp (rScore x q kc b h g t - peak (rScore x q kc b h g) (rFresh x q n b h g)) := by
  pointwise [k0_pay14]
  simp only [pay12_apply]

/-- The reference's result. -/
def out (x0 x1 : Vec Ideal S4 .f32) (q : Vec Ideal S16x4x8x128 .f32) (kn vn : FVec Ideal S16x1x4x128 .fp8e4m3) (kc vc : Vec Ideal S16x8192x4x128 .fp8e4m3) : FVec Ideal S16x4x8x128 .f32 :=
  k0_pay1 (k0_pay7 (scales x1) vc) (k0_pay8 (scales x1) vn) (k0_pay12 (scales x0) kn q kc) (k0_pay13 (scales x0) kn q kc) (k0_pay14 (scales x0) kn q kc)

/-- The reference's result is each query's attention over its head's tokens. -/
theorem out_apply (x0 x1 : Vec Ideal S4 .f32) (q : Vec Ideal S16x4x8x128 .f32) (kn vn : FVec Ideal S16x1x4x128 .fp8e4m3) (kc vc : Vec Ideal S16x8192x4x128 .fp8e4m3)
    (b : Fin 16) (h : Fin 4) (g : Fin 8) (d : Fin 128) :
    out x0 x1 q kn vn kc vc (ix4 b h g d) = attend (rScore x0 q kc b h g) (rFresh x0 q kn b h g) (fun t => vc (ix4 b t h d) * x1 (ValueIdx.ix1 h)) (vn (ix4 b 0 h d) * x1 (ValueIdx.ix1 h)) := by
  unfold out attend
  pointwise [k0_pay1]
  simp only [Fin.sum_univ_one, values_apply, newValues_apply, pay12_apply, pay13_apply, pay14_apply]

end Cert.ReferenceIdeal.Val

end
-- ==== Proof.Value.RefRead.lean ====
/- What the reference's run leaves in its result arrays. -/
module

public import proofs.«01_k».proof.Proof.Value.RefPay
public import Idealize.ShloMosaic.Lib.Claim
public import Idealize.ShloMosaic.Lib.Pipeline.Value
public import Idealize.ShloMosaic.Lib.Pipeline.ValueKit

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic Idealize.SL Idealize.SL.Sem

/-! A word of a scale table, read through its one-word box, is that word of the table. -/

/-- The one-word load at offset 0 reads word 0 of the table. -/
theorem readAt_word0 (a : Memref sig .tc .smem S4 .f32) (ha : a.IsWhole) (x : Vec Ideal S4 .f32) (h : 0 < (Rect.unit (s := S4) ![0] ![1] inb_S4_S1_0).shape.numel) :
    View.readAt (Elt Ideal) a.view (Rect.unit (s := S4) ![0] ![1] inb_S4_S1_0).toLoadRect (ha.unread x) (Shape.Idx.first h) = x (ValueIdx.ix1 0) := by
  rw [View.readAt_eq_ld, ha.read_unread]
  exact congrArg x (funext fun d => match d with | ⟨0, _⟩ => rfl)

/-- The one-word load at offset 1 reads word 1 of the table. -/
theorem readAt_word1 (a : Memref sig .tc .smem S4 .f32) (ha : a.IsWhole) (x : Vec Ideal S4 .f32) (h : 0 < (Rect.unit (s := S4) ![1] ![1] inb_S4_S1_1).shape.numel) :
    View.readAt (Elt Ideal) a.view (Rect.unit (s := S4) ![1] ![1] inb_S4_S1_1).toLoadRect (ha.unread x) (Shape.Idx.first h) = x (ValueIdx.ix1 1) := by
  rw [View.readAt_eq_ld, ha.read_unread]
  exact congrArg x (funext fun d => match d with | ⟨0, _⟩ => rfl)

/-- The one-word load at offset 2 reads word 2 of the table. -/
theorem readAt_word2 (a : Memref sig .tc .smem S4 .f32) (ha : a.IsWhole) (x : Vec Ideal S4 .f32) (h : 0 < (Rect.unit (s := S4) ![2] ![1] inb_S4_S1_2).shape.numel) :
    View.readAt (Elt Ideal) a.view (Rect.unit (s := S4) ![2] ![1] inb_S4_S1_2).toLoadRect (ha.unread x) (Shape.Idx.first h) = x (ValueIdx.ix1 2) := by
  rw [View.readAt_eq_ld, ha.read_unread]
  exact congrArg x (funext fun d => match d with | ⟨0, _⟩ => rfl)

/-- The one-word load at offset 3 reads word 3 of the table. -/
theorem readAt_word3 (a : Memref sig .tc .smem S4 .f32) (ha : a.IsWhole) (x : Vec Ideal S4 .f32) (h : 0 < (Rect.unit (s := S4) ![3] ![1] inb_S4_S1_3).shape.numel) :
    View.readAt (Elt Ideal) a.view (Rect.unit (s := S4) ![3] ![1] inb_S4_S1_3).toLoadRect (ha.unread x) (Shape.Idx.first h) = x (ValueIdx.ix1 3) := by
  rw [View.readAt_eq_ld, ha.read_unread]
  exact congrArg x (funext fun d => match d with | ⟨0, _⟩ => rfl)

/-- A load of a whole buffer reads its contents. -/
theorem readAt_whole {sp : Space} {S : Shape} {e : EltTy} (a : Memref sig .tc sp S e) (ha : a.IsWhole) (x : Vec Ideal S e) {off : Fin S.rank → ℕ} (h : off = fun _ => 0)
    (inb : ∀ d, off d + S.size d ≤ S.size d) : View.readAt (Elt Ideal) a.view (Rect.unit off S.size inb).toLoadRect (ha.unread x) = x := by
  rw [View.readAt_eq_ld, ha.read_unread]
  exact View.ld_unit_zero h inb x

/-- These offsets are all zero. -/
theorem off4_zero : (![0, 0, 0, 0] : Fin 4 → ℕ) = fun _ => 0 := by decide

section
variable (c : Dev nD) (arg0 : Memref sig .tc .smem S4 .f32) (harg0 : arg0.IsWhole) (arg1 : Memref sig .tc .smem S4 .f32) (harg1 : arg1.IsWhole) (arg2 : Memref sig .tc .vmem S16x4x8x128 .f32) (harg2 : arg2.IsWhole) (arg3 : Memref sig .tc .vmem S16x1x4x128 .f32) (harg3 : arg3.IsWhole) (arg4 : Memref sig .tc .vmem S16x1x4x128 .f32) (harg4 : arg4.IsWhole) (arg5 : Memref sig .tc .vmem S16x8192x4x128 .fp8e4m3) (harg5 : arg5.IsWhole) (arg6 : Memref sig .tc .vmem S16x8192x4x128 .fp8e4m3) (harg6 : arg6.IsWhole) (arg7 : Memref sig .tc .vmem S16x4x8x128 .f32) (harg7 : arg7.IsWhole) (arg8 : Memref sig .tc .vmem S16x1x4x128 .fp8e4m3) (harg8 : arg8.IsWhole) (arg9 : Memref sig .tc .vmem S16x1x4x128 .fp8e4m3) (harg9 : arg9.IsWhole)
  (x0 : Vec Ideal S4 .f32) (x1 : Vec Ideal S4 .f32) (x2 : Vec Ideal S16x4x8x128 .f32) (x3 : Vec Ideal S16x1x4x128 .f32) (x4 : Vec Ideal S16x1x4x128 .f32) (x5 : Vec Ideal S16x8192x4x128 .fp8e4m3) (x6 : Vec Ideal S16x8192x4x128 .fp8e4m3)

/-- The run leaves the attention of the codes and caches in its first result. -/
theorem out7_eq : out0_A_7 c arg0 harg0 arg1 harg1 arg2 harg2 arg3 harg3 arg4 harg4 arg5 harg5 arg6 harg6 arg7 harg7 arg8 harg8 arg9 harg9 x0 x1 x2 x3 x4 x5 x6 = out x0 x1 x2 (codes x0 x3) (codes x1 x4) x5 x6 := by
  unfold out0_A_7
  rw [View.read_writes_junk_eq_canon]
  unfold kernelRun0_A; dsimp only
  sl_unfold_run_names
  dsimp only
  rw [readAt_word0 arg0 harg0 x0, readAt_word1 arg0 harg0 x0, readAt_word2 arg0 harg0 x0, readAt_word3 arg0 harg0 x0, readAt_word0 arg1 harg1 x1, readAt_word1 arg1 harg1 x1, readAt_word2 arg1 harg1 x1, readAt_word3 arg1 harg1 x1,
    readAt_whole arg2 harg2 x2 off4_zero, readAt_whole arg3 harg3 x3 off4_zero, readAt_whole arg4 harg4 x4 off4_zero, readAt_whole arg5 harg5 x5 off4_zero, readAt_whole arg6 harg6 x6 off4_zero]
  exact View.canon_unit_zero off4_zero _ _

/-- The run leaves the new keys' codes in its second result. -/
theorem out8_eq : out0_A_8 c arg0 harg0 arg1 harg1 arg2 harg2 arg3 harg3 arg4 harg4 arg5 harg5 arg6 harg6 arg7 harg7 arg8 harg8 arg9 harg9 x0 x1 x2 x3 x4 x5 x6 = codes x0 x3 := by
  unfold out0_A_8
  rw [View.read_writes_junk_eq_canon]
  unfold kernelRun0_A; dsimp only
  sl_unfold_run_names
  dsimp only
  rw [readAt_word0 arg0 harg0 x0, readAt_word1 arg0 harg0 x0, readAt_word2 arg0 harg0 x0, readAt_word3 arg0 harg0 x0, readAt_whole arg3 harg3 x3 off4_zero]
  exact View.canon_unit_zero off4_zero _ _

/-- The run leaves the new values' codes in its third result. -/
theorem out9_eq : out0_A_9 c arg0 harg0 arg1 harg1 arg2 harg2 arg3 harg3 arg4 harg4 arg5 harg5 arg6 harg6 arg7 harg7 arg8 harg8 arg9 harg9 x0 x1 x2 x3 x4 x5 x6 = codes x1 x4 := by
  unfold out0_A_9
  rw [View.read_writes_junk_eq_canon]
  unfold kernelRun0_A; dsimp only
  sl_unfold_run_names
  dsimp only
  rw [readAt_word0 arg1 harg1 x1, readAt_word1 arg1 harg1 x1, readAt_word2 arg1 harg1 x1, readAt_word3 arg1 harg1 x1, readAt_whole arg4 harg4 x4 off4_zero]
  exact View.canon_unit_zero off4_zero _ _

end

/-! The one grid point's block of each array is the whole array. -/

/-- Where window 0's block starts. -/
theorem idx0 : ∀ t : Fin cfg0.N, win0_0.index t (0 : Fin 1) = 0 := (by decide +kernel : ∀ t : Fin grid0.N, _)
/-- An entry of window 0's block is the same entry of the array. -/
theorem emb0 (t : Fin cfg0.N) (j : S4.Idx) : ((cfg0.win 0).blk t).view.emb j = j := by
  have e0 := idx0 t
  funext a; apply Fin.ext
  match a with
  | ⟨0, _⟩ => show win0_0.index t (0 : Fin 1) * 4 + 1 * (j 0).val = (j 0).val; omega

/-- Where window 1's block starts. -/
theorem idx1 : ∀ t : Fin cfg0.N, win0_1.index t (0 : Fin 1) = 0 := (by decide +kernel : ∀ t : Fin grid0.N, _)
/-- An entry of window 1's block is the same entry of the array. -/
theorem emb1 (t : Fin cfg0.N) (j : S4.Idx) : ((cfg0.win 1).blk t).view.emb j = j := by
  have e0 := idx1 t
  funext a; apply Fin.ext
  match a with
  | ⟨0, _⟩ => show win0_1.index t (0 : Fin 1) * 4 + 1 * (j 0).val = (j 0).val; omega

/-- Where window 2's block starts. -/
theorem idx2 : ∀ t : Fin cfg0.N, win0_2.index t (0 : Fin 4) = 0 ∧ win0_2.index t (1 : Fin 4) = 0 ∧ win0_2.index t (2 : Fin 4) = 0 ∧ win0_2.index t (3 : Fin 4) = 0 := (by decide +kernel : ∀ t : Fin grid0.N, _)
/-- An entry of window 2's block is the same entry of the array. -/
theorem emb2 (t : Fin cfg0.N) (j : S16x4x8x128.Idx) : ((cfg0.win 2).blk t).view.emb j = j := by
  obtain ⟨e0, e1, e2, e3⟩ := idx2 t
  funext a; apply Fin.ext
  match a with
  | ⟨0, _⟩ => show win0_2.index t (0 : Fin 4) * 16 + 1 * (j 0).val = (j 0).val; omega
  | ⟨1, _⟩ => show win0_2.index t (1 : Fin 4) * 4 + 1 * (j 1).val = (j 1).val; omega
  | ⟨2, _⟩ => show win0_2.index t (2 : Fin 4) * 8 + 1 * (j 2).val = (j 2).val; omega
  | ⟨3, _⟩ => show win0_2.index t (3 : Fin 4) * 128 + 1 * (j 3).val = (j 3).val; omega

/-- Where window 3's block starts. -/
theorem idx3 : ∀ t : Fin cfg0.N, win0_3.index t (0 : Fin 4) = 0 ∧ win0_3.index t (1 : Fin 4) = 0 ∧ win0_3.index t (2 : Fin 4) = 0 ∧ win0_3.index t (3 : Fin 4) = 0 := (by decide +kernel : ∀ t : Fin grid0.N, _)
/-- An entry of window 3's block is the same entry of the array. -/
theorem emb3 (t : Fin cfg0.N) (j : S16x1x4x128.Idx) : ((cfg0.win 3).blk t).view.emb j = j := by
  obtain ⟨e0, e1, e2, e3⟩ := idx3 t
  funext a; apply Fin.ext
  match a with
  | ⟨0, _⟩ => show win0_3.index t (0 : Fin 4) * 16 + 1 * (j 0).val = (j 0).val; omega
  | ⟨1, _⟩ => show win0_3.index t (1 : Fin 4) * 1 + 1 * (j 1).val = (j 1).val; omega
  | ⟨2, _⟩ => show win0_3.index t (2 : Fin 4) * 4 + 1 * (j 2).val = (j 2).val; omega
  | ⟨3, _⟩ => show win0_3.index t (3 : Fin 4) * 128 + 1 * (j 3).val = (j 3).val; omega

/-- Where window 4's block starts. -/
theorem idx4 : ∀ t : Fin cfg0.N, win0_4.index t (0 : Fin 4) = 0 ∧ win0_4.index t (1 : Fin 4) = 0 ∧ win0_4.index t (2 : Fin 4) = 0 ∧ win0_4.index t (3 : Fin 4) = 0 := (by decide +kernel : ∀ t : Fin grid0.N, _)
/-- An entry of window 4's block is the same entry of the array. -/
theorem emb4 (t : Fin cfg0.N) (j : S16x1x4x128.Idx) : ((cfg0.win 4).blk t).view.emb j = j := by
  obtain ⟨e0, e1, e2, e3⟩ := idx4 t
  funext a; apply Fin.ext
  match a with
  | ⟨0, _⟩ => show win0_4.index t (0 : Fin 4) * 16 + 1 * (j 0).val = (j 0).val; omega
  | ⟨1, _⟩ => show win0_4.index t (1 : Fin 4) * 1 + 1 * (j 1).val = (j 1).val; omega
  | ⟨2, _⟩ => show win0_4.index t (2 : Fin 4) * 4 + 1 * (j 2).val = (j 2).val; omega
  | ⟨3, _⟩ => show win0_4.index t (3 : Fin 4) * 128 + 1 * (j 3).val = (j 3).val; omega

/-- Where window 5's block starts. -/
theorem idx5 : ∀ t : Fin cfg0.N, win0_5.index t (0 : Fin 4) = 0 ∧ win0_5.index t (1 : Fin 4) = 0 ∧ win0_5.index t (2 : Fin 4) = 0 ∧ win0_5.index t (3 : Fin 4) = 0 := (by decide +kernel : ∀ t : Fin grid0.N, _)
/-- An entry of window 5's block is the same entry of the array. -/
theorem emb5 (t : Fin cfg0.N) (j : S16x8192x4x128.Idx) : ((cfg0.win 5).blk t).view.emb j = j := by
  obtain ⟨e0, e1, e2, e3⟩ := idx5 t
  funext a; apply Fin.ext
  match a with
  | ⟨0, _⟩ => show win0_5.index t (0 : Fin 4) * 16 + 1 * (j 0).val = (j 0).val; omega
  | ⟨1, _⟩ => show win0_5.index t (1 : Fin 4) * 8192 + 1 * (j 1).val = (j 1).val; omega
  | ⟨2, _⟩ => show win0_5.index t (2 : Fin 4) * 4 + 1 * (j 2).val = (j 2).val; omega
  | ⟨3, _⟩ => show win0_5.index t (3 : Fin 4) * 128 + 1 * (j 3).val = (j 3).val; omega

/-- Where window 6's block starts. -/
theorem idx6 : ∀ t : Fin cfg0.N, win0_6.index t (0 : Fin 4) = 0 ∧ win0_6.index t (1 : Fin 4) = 0 ∧ win0_6.index t (2 : Fin 4) = 0 ∧ win0_6.index t (3 : Fin 4) = 0 := (by decide +kernel : ∀ t : Fin grid0.N, _)
/-- An entry of window 6's block is the same entry of the array. -/
theorem emb6 (t : Fin cfg0.N) (j : S16x8192x4x128.Idx) : ((cfg0.win 6).blk t).view.emb j = j := by
  obtain ⟨e0, e1, e2, e3⟩ := idx6 t
  funext a; apply Fin.ext
  match a with
  | ⟨0, _⟩ => show win0_6.index t (0 : Fin 4) * 16 + 1 * (j 0).val = (j 0).val; omega
  | ⟨1, _⟩ => show win0_6.index t (1 : Fin 4) * 8192 + 1 * (j 1).val = (j 1).val; omega
  | ⟨2, _⟩ => show win0_6.index t (2 : Fin 4) * 4 + 1 * (j 2).val = (j 2).val; omega
  | ⟨3, _⟩ => show win0_6.index t (3 : Fin 4) * 128 + 1 * (j 3).val = (j 3).val; omega

/-- Where window 7's block starts. -/
theorem idx7 : ∀ t : Fin cfg0.N, win0_7.index t (0 : Fin 4) = 0 ∧ win0_7.index t (1 : Fin 4) = 0 ∧ win0_7.index t (2 : Fin 4) = 0 ∧ win0_7.index t (3 : Fin 4) = 0 := (by decide +kernel : ∀ t : Fin grid0.N, _)
/-- An entry of window 7's block is the same entry of the array. -/
theorem emb7 (t : Fin cfg0.N) (j : S16x4x8x128.Idx) : ((cfg0.win 7).blk t).view.emb j = j := by
  obtain ⟨e0, e1, e2, e3⟩ := idx7 t
  funext a; apply Fin.ext
  match a with
  | ⟨0, _⟩ => show win0_7.index t (0 : Fin 4) * 16 + 1 * (j 0).val = (j 0).val; omega
  | ⟨1, _⟩ => show win0_7.index t (1 : Fin 4) * 4 + 1 * (j 1).val = (j 1).val; omega
  | ⟨2, _⟩ => show win0_7.index t (2 : Fin 4) * 8 + 1 * (j 2).val = (j 2).val; omega
  | ⟨3, _⟩ => show win0_7.index t (3 : Fin 4) * 128 + 1 * (j 3).val = (j 3).val; omega

/-- Where window 8's block starts. -/
theorem idx8 : ∀ t : Fin cfg0.N, win0_8.index t (0 : Fin 4) = 0 ∧ win0_8.index t (1 : Fin 4) = 0 ∧ win0_8.index t (2 : Fin 4) = 0 ∧ win0_8.index t (3 : Fin 4) = 0 := (by decide +kernel : ∀ t : Fin grid0.N, _)
/-- An entry of window 8's block is the same entry of the array. -/
theorem emb8 (t : Fin cfg0.N) (j : S16x1x4x128.Idx) : ((cfg0.win 8).blk t).view.emb j = j := by
  obtain ⟨e0, e1, e2, e3⟩ := idx8 t
  funext a; apply Fin.ext
  match a with
  | ⟨0, _⟩ => show win0_8.index t (0 : Fin 4) * 16 + 1 * (j 0).val = (j 0).val; omega
  | ⟨1, _⟩ => show win0_8.index t (1 : Fin 4) * 1 + 1 * (j 1).val = (j 1).val; omega
  | ⟨2, _⟩ => show win0_8.index t (2 : Fin 4) * 4 + 1 * (j 2).val = (j 2).val; omega
  | ⟨3, _⟩ => show win0_8.index t (3 : Fin 4) * 128 + 1 * (j 3).val = (j 3).val; omega

/-- Where window 9's block starts. -/
theorem idx9 : ∀ t : Fin cfg0.N, win0_9.index t (0 : Fin 4) = 0 ∧ win0_9.index t (1 : Fin 4) = 0 ∧ win0_9.index t (2 : Fin 4) = 0 ∧ win0_9.index t (3 : Fin 4) = 0 := (by decide +kernel : ∀ t : Fin grid0.N, _)
/-- An entry of window 9's block is the same entry of the array. -/
theorem emb9 (t : Fin cfg0.N) (j : S16x1x4x128.Idx) : ((cfg0.win 9).blk t).view.emb j = j := by
  obtain ⟨e0, e1, e2, e3⟩ := idx9 t
  funext a; apply Fin.ext
  match a with
  | ⟨0, _⟩ => show win0_9.index t (0 : Fin 4) * 16 + 1 * (j 0).val = (j 0).val; omega
  | ⟨1, _⟩ => show win0_9.index t (1 : Fin 4) * 1 + 1 * (j 1).val = (j 1).val; omega
  | ⟨2, _⟩ => show win0_9.index t (2 : Fin 4) * 4 + 1 * (j 2).val = (j 2).val; omega
  | ⟨3, _⟩ => show win0_9.index t (3 : Fin 4) * 128 + 1 * (j 3).val = (j 3).val; omega

variable (m : (ℓ : Loc nD τ sig) → Buf (Elt Ideal) ℓ) (ρ : Dev nD → PrngReg)

/-- The key scales. -/
theorem iblk0_eq (c : Dev nD) (t : Fin cfg0.N) : iblk m c 0 t = V m c main_arg4 := by
  funext j; show V m c main_arg4 (((cfg0.win 0).blk t).view.emb j) = V m c main_arg4 j; rw [emb0]

/-- The value scales. -/
theorem iblk1_eq (c : Dev nD) (t : Fin cfg0.N) : iblk m c 1 t = V m c main_arg6 := by
  funext j; show V m c main_arg6 (((cfg0.win 1).blk t).view.emb j) = V m c main_arg6 j; rw [emb1]

/-- The queries given at a point. -/
theorem iblk2_eq (c : Dev nD) (t : Fin cfg0.N) : iblk m c 2 t = V m c main_v0 := by
  funext j; show V m c main_v0 (((cfg0.win 2).blk t).view.emb j) = V m c main_v0 j; rw [emb2]

/-- The new keys given at a point. -/
theorem iblk3_eq (c : Dev nD) (t : Fin cfg0.N) : iblk m c 3 t = V m c main_arg1 := by
  funext j; show V m c main_arg1 (((cfg0.win 3).blk t).view.emb j) = V m c main_arg1 j; rw [emb3]

/-- The new values given at a point. -/
theorem iblk4_eq (c : Dev nD) (t : Fin cfg0.N) : iblk m c 4 t = V m c main_arg2 := by
  funext j; show V m c main_arg2 (((cfg0.win 4).blk t).view.emb j) = V m c main_arg2 j; rw [emb4]

/-- The cached keys given at a point. -/
theorem iblk5_eq (c : Dev nD) (t : Fin cfg0.N) : iblk m c 5 t = V m c main_arg3 := by
  funext j; show V m c main_arg3 (((cfg0.win 5).blk t).view.emb j) = V m c main_arg3 j; rw [emb5]

/-- The cached values given at a point. -/
theorem iblk6_eq (c : Dev nD) (t : Fin cfg0.N) : iblk m c 6 t = V m c main_arg5 := by
  funext j; show V m c main_arg5 (((cfg0.win 6).blk t).view.emb j) = V m c main_arg5 j; rw [emb6]

/-- The queries: the first argument's rows split into the heads' groups. -/
theorem V_queries (c : Dev nD) : V m c main_v0 = shapeCast S16x4x8x128 (m ((c : Thread nD τ).loc main_arg0)) shapeCasts_S16x1x4096_S16x4x8x128 := by
  show StableHlo.after hostOps0 _ (Proc.devRef .tc main_v0) = _
  after_results
  rfl

/-- The attention result of a run from memory `m`. -/
def yOf (c : Dev nD) : FVec Ideal S16x4x8x128 .f32 :=
  out (m ((c : Thread nD τ).loc main_arg4)) (m ((c : Thread nD τ).loc main_arg6)) (shapeCast S16x4x8x128 (m ((c : Thread nD τ).loc main_arg0)) shapeCasts_S16x1x4096_S16x4x8x128)
    (codes (m ((c : Thread nD τ).loc main_arg4)) (m ((c : Thread nD τ).loc main_arg1))) (codes (m ((c : Thread nD τ).loc main_arg6)) (m ((c : Thread nD τ).loc main_arg2)))
    (m ((c : Thread nD τ).loc main_arg3)) (m ((c : Thread nD τ).loc main_arg5))

/-- The new keys' codes of a run from memory `m`. -/
def kOf (c : Dev nD) : FVec Ideal S16x1x4x128 .fp8e4m3 := codes (m ((c : Thread nD τ).loc main_arg4)) (m ((c : Thread nD τ).loc main_arg1))

/-- The new values' codes of a run from memory `m`. -/
def vOf (c : Dev nD) : FVec Ideal S16x1x4x128 .fp8e4m3 := codes (m ((c : Thread nD τ).loc main_arg6)) (m ((c : Thread nD τ).loc main_arg2))

/-- The body leaves the attention. -/
theorem after7_eq (c : Dev nD) (t : Fin cfg0.N) : (dats m 0 c).after 7 t = yOf m c := by
  rw [after0_7]; unfold outsAt0 yOf; dsimp only
  rw [out7_eq, iblk0_eq, iblk1_eq, iblk2_eq, iblk3_eq, iblk4_eq, iblk5_eq, iblk6_eq, V_main_arg4, V_main_arg6, V_queries, V_main_arg1, V_main_arg2, V_main_arg3, V_main_arg5]

/-- The body leaves the new keys' codes. -/
theorem after8_eq (c : Dev nD) (t : Fin cfg0.N) : (dats m 0 c).after 8 t = kOf m c := by
  rw [after0_8]; unfold outsAt0 kOf; dsimp only
  rw [out8_eq, iblk0_eq, iblk3_eq, V_main_arg4, V_main_arg1]

/-- The body leaves the new values' codes. -/
theorem after9_eq (c : Dev nD) (t : Fin cfg0.N) : (dats m 0 c).after 9 t = vOf m c := by
  rw [after0_9]; unfold outsAt0 vOf; dsimp only
  rw [out9_eq, iblk1_eq, iblk4_eq, V_main_arg6, V_main_arg2]

/-- The first result array ends at the attention. -/
theorem final7 (c : Dev nD) : (dats m 0 c).arrAt 7 cfg0.N = yOf m c := by
  refine (dats m 0 c).arrAt_eq_of_cover 7 (yOf m c) (fun t _ => ?_) (fun i => ⟨(⟨0, by decide⟩ : Fin cfg0.N), flush0_7 _, by
    have h := ((cfg0.win 7).blk (⟨0, by decide⟩ : Fin cfg0.N)).view.emb_mem_set i; rwa [emb7] at h⟩)
  funext j
  show (dats m 0 c).after 7 t j = yOf m c (((cfg0.win 7).blk t).view.emb j)
  rw [emb7, after7_eq]

/-- The second result array ends at the new keys' codes. -/
theorem final8 (c : Dev nD) : (dats m 0 c).arrAt 8 cfg0.N = kOf m c := by
  refine (dats m 0 c).arrAt_eq_of_cover 8 (kOf m c) (fun t _ => ?_) (fun i => ⟨(⟨0, by decide⟩ : Fin cfg0.N), flush0_8 _, by
    have h := ((cfg0.win 8).blk (⟨0, by decide⟩ : Fin cfg0.N)).view.emb_mem_set i; rwa [emb8] at h⟩)
  funext j
  show (dats m 0 c).after 8 t j = kOf m c (((cfg0.win 8).blk t).view.emb j)
  rw [emb8, after8_eq]

/-- The third result array ends at the new values' codes. -/
theorem final9 (c : Dev nD) : (dats m 0 c).arrAt 9 cfg0.N = vOf m c := by
  refine (dats m 0 c).arrAt_eq_of_cover 9 (vOf m c) (fun t _ => ?_) (fun i => ⟨(⟨0, by decide⟩ : Fin cfg0.N), flush0_9 _, by
    have h := ((cfg0.win 9).blk (⟨0, by decide⟩ : Fin cfg0.N)).view.emb_mem_set i; rwa [emb9] at h⟩)
  funext j
  show (dats m 0 c).after 9 t j = vOf m c (((cfg0.win 9).blk t).view.emb j)
  rw [emb9, after9_eq]

/-- After the lines that follow the region, the first result holds the attention with the heads' groups joined again. -/
theorem tail_y (c : Dev nD) : Pipeline.afterTail₀ cfgs (dats m) 0 (V0 m) [hostOps1] c main_v2 = shapeCast S16x1x4096 (yOf m c) shapeCasts_S16x4x8x128_S16x1x4096 := by
  unfold Pipeline.afterTail₀
  show StableHlo.after hostOps1 _ (Proc.devRef .tc main_v2) = _
  after_results
  have e := Pipeline.withArrays_arr (cfgs 0).spec launch0.win.arr_inj c (V0 m c) (fun w => (dats m 0 c).arrAt w (cfgs 0).N) 7
  rw [← final7 m c]
  exact congrArg (fun y => shapeCast S16x1x4096 y shapeCasts_S16x4x8x128_S16x1x4096) e

/-- Every run of the reference leaves its results at these values. -/
theorem run : θ_run defs (onTc (τ := τ) (main (F := Ideal))) ⟨m, fun _ => 0, ρ⟩ (fun r => ∀ c : Dev nD,
      r.2.mem ((c.tc : Thread nD τ).loc main_v2) = shapeCast S16x1x4096 (yOf m c) shapeCasts_S16x4x8x128_S16x1x4096
      ∧ r.2.mem ((c.tc : Thread nD τ).loc main_v1_1) = kOf m c
      ∧ r.2.mem ((c.tc : Thread nD τ).loc main_v1_2) = vOf m c) :=
  (θ_run defs _ _).mono (fun r h c => ⟨
    ((h c).2 main_v2 (Pipeline.mem_restRefs_of main_v2 (by decide) (by decide))).trans (tail_y m c),
    ((h c).1 8).trans (final8 m c), ((h c).1 9).trans (final9 m c)⟩) (run_main m ρ)

end Cert.ReferenceIdeal.Val

end
-- ==== Proof.Value.RefEntry.lean ====
/- The entries of the reference's results, as expressions in the entries of its arguments. -/
module

public import proofs.«01_k».proof.Proof.Value.RefRead
public import proofs.«01_k».proof.Proof.Value.Target

@[expose] public section

set_option maxRecDepth 16384

noncomputable section

namespace Cert.ReferenceIdeal.Val

open Cert.ReferenceIdeal Cert.ReferenceIdeal.Gen Cert.Attn
open Cert.KernelIdeal.Run (quant smScale)
open Idealize.ShloMosaic Idealize.ShloMosaic.TcCoe

variable (m : (ℓ : Loc nD τ sig) → Buf (Elt Ideal) ℓ)

/-- An entry of the queries, split by head. -/
theorem query_at (y : FVec Ideal S16x1x4096 .f32) (b : Fin 16) (h : Fin 4) (g : Fin 8) (d : Fin 128) :
    shapeCast S16x4x8x128 y shapeCasts_S16x1x4096_S16x4x8x128 (ix4 b h g d) = y (ix3 b 0 ⟨128 * (8 * h.val + g.val) + d.val, by omega⟩) := by
  pointwise
  congr 2
  first | omega | (apply Fin.ext; dsimp only; omega)

/-- An entry of the attention. -/
theorem yOf_apply (c : Dev nD) (b : Fin 16) (h : Fin 4) (g : Fin 8) (d : Fin 128) :
    yOf m c (ix4 b h g d)
      = target (fun d => m ((c : Thread nD τ).loc main_arg0) (ix3 b 0 ⟨128 * (8 * h.val + g.val) + d.val, by omega⟩)) (fun t d => m ((c : Thread nD τ).loc main_arg3) (ix4 b t h d)) (fun d => m ((c : Thread nD τ).loc main_arg1) (ix4 b 0 h d))
          (fun t => m ((c : Thread nD τ).loc main_arg5) (ix4 b t h d)) (m ((c : Thread nD τ).loc main_arg2) (ix4 b 0 h d)) (m ((c : Thread nD τ).loc main_arg4) (ValueIdx.ix1 h)) (m ((c : Thread nD τ).loc main_arg6) (ValueIdx.ix1 h)) := by
  unfold yOf target
  rw [out_apply]
  refine attend_congr (funext fun t => ?_) ?_ rfl ?_
  · unfold rScore
    refine congrArg (· * smScale) (Finset.sum_congr rfl fun k _ => ?_)
    rw [query_at]
  · unfold rFresh
    refine congrArg (· * smScale) (Finset.sum_congr rfl fun k _ => ?_)
    rw [query_at, codes_apply]
  · rw [codes_apply]

/-- An entry of the first result. -/
theorem v2_apply (c : Dev nD) (b : Fin 16) (h : Fin 4) (g : Fin 8) (d : Fin 128) (l : Fin 4096) (e : l.val = 128 * (8 * h.val + g.val) + d.val) :
    shapeCast S16x1x4096 (yOf m c) shapeCasts_S16x4x8x128_S16x1x4096 (ix3 b 0 l)
      = target (fun d => m ((c : Thread nD τ).loc main_arg0) (ix3 b 0 ⟨128 * (8 * h.val + g.val) + d.val, by omega⟩)) (fun t d => m ((c : Thread nD τ).loc main_arg3) (ix4 b t h d)) (fun d => m ((c : Thread nD τ).loc main_arg1) (ix4 b 0 h d))
          (fun t => m ((c : Thread nD τ).loc main_arg5) (ix4 b t h d)) (m ((c : Thread nD τ).loc main_arg2) (ix4 b 0 h d)) (m ((c : Thread nD τ).loc main_arg4) (ValueIdx.ix1 h)) (m ((c : Thread nD τ).loc main_arg6) (ValueIdx.ix1 h)) := by
  rw [← yOf_apply m c b h g d]
  generalize yOf m c = y
  pointwise
  have e1 : ∀ q, (⟨l.val / 1024, q⟩ : Fin 4) = h := fun q => Fin.ext (by dsimp only; omega)
  have e2 : ∀ q, (⟨l.val / 128 % 8, q⟩ : Fin 8) = g := fun q => Fin.ext (by dsimp only; omega)
  have e3 : ∀ q, (⟨l.val % 128, q⟩ : Fin 128) = d := fun q => Fin.ext (by dsimp only; omega)
  rw [e1, e2, e3]

end Cert.ReferenceIdeal.Val

end
-- ==== Proof.Value.Agree.lean ====
/- The kernel and the reference give equal results on equal arguments. -/
module

public import proofs.«01_k».proof.Defs
public import proofs.«01_k».proof.Proof.Value.KEntry
public import proofs.«01_k».proof.Proof.Value.RefEntry
public import proofs.«01_k».proof.Proof.Gen.ReferenceIdeal.Frame

@[expose] public section

set_option maxRecDepth 16384

noncomputable section

namespace Cert.Attn

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The attention is the same. -/
theorem attention_eq (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    shapeCast Cert.ReferenceIdeal.S16x1x4096 (Cert.ReferenceIdeal.Val.yOf m' c) Cert.ReferenceIdeal.Facts₀.shapeCasts_S16x4x8x128_S16x1x4096
      = shapeCast Cert.KernelIdeal.S16x1x4096 (Cert.KernelIdeal.Run.yArr m c) Cert.KernelIdeal.Facts₀.shapeCasts_S16x32x128_S16x1x4096 := by
  funext i
  obtain ⟨b, z, l, rfl⟩ : ∃ (b : Fin 16) (z : Fin 1) (l : Fin 4096), i = ix3 b z l :=
    ⟨i 0, i 1, i 2, funext fun a => match a with | ⟨0, _⟩ => rfl | ⟨1, _⟩ => rfl | ⟨2, _⟩ => rfl⟩
  obtain rfl : z = 0 := Subsingleton.elim _ _
  have hl := l.isLt
  have e : l.val = 128 * (8 * (l.val / 1024) + l.val / 128 % 8) + l.val % 128 := by omega
  refine (Cert.ReferenceIdeal.Val.v2_apply m' c b ⟨l.val / 1024, by omega⟩ ⟨l.val / 128 % 8, by omega⟩ ⟨l.val % 128, by omega⟩ l e).trans ?_
  refine Eq.trans ?_ (Cert.KernelIdeal.Run.v6_apply m c b ⟨l.val / 1024, by omega⟩ ⟨l.val / 128 % 8, by omega⟩ ⟨l.val % 128, by omega⟩ l e).symm
  rw [h0, h1, h2, h3, h4, h5, h6]

/-- The new keys' codes are the same. -/
theorem keys_eq (c : Dev Cert.KernelIdeal.nD) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Val.kOf m' c = shapeCast Cert.KernelIdeal.S16x1x4x128 (Cert.KernelIdeal.Run.kCodes m c) Cert.KernelIdeal.Facts₀.shapeCasts_S64x128_S16x1x4x128 := by
  funext i
  obtain ⟨b, z, h, d, rfl⟩ : ∃ (b : Fin 16) (z : Fin 1) (h : Fin 4) (d : Fin 128), i = ix4 b z h d :=
    ⟨i 0, i 1, i 2, i 3, funext fun a => match a with | ⟨0, _⟩ => rfl | ⟨1, _⟩ => rfl | ⟨2, _⟩ => rfl | ⟨3, _⟩ => rfl⟩
  obtain rfl : z = 0 := Subsingleton.elim _ _
  refine Eq.trans ?_ (Cert.KernelIdeal.Run.v7_apply m c b h d).symm
  unfold Cert.ReferenceIdeal.Val.kOf
  rw [Cert.ReferenceIdeal.Val.codes_apply, h1, h4]

/-- The new values' codes are the same. -/
theorem values_eq (c : Dev Cert.KernelIdeal.nD) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Val.vOf m' c = shapeCast Cert.KernelIdeal.S16x1x4x128 (Cert.KernelIdeal.Run.vCodes m c) Cert.KernelIdeal.Facts₀.shapeCasts_S64x128_S16x1x4x128 := by
  funext i
  obtain ⟨b, z, h, d, rfl⟩ : ∃ (b : Fin 16) (z : Fin 1) (h : Fin 4) (d : Fin 128), i = ix4 b z h d :=
    ⟨i 0, i 1, i 2, i 3, funext fun a => match a with | ⟨0, _⟩ => rfl | ⟨1, _⟩ => rfl | ⟨2, _⟩ => rfl | ⟨3, _⟩ => rfl⟩
  obtain rfl : z = 0 := Subsingleton.elim _ _
  refine Eq.trans ?_ (Cert.KernelIdeal.Run.v8_apply m c b h d).symm
  unfold Cert.ReferenceIdeal.Val.vOf
  rw [Cert.ReferenceIdeal.Val.codes_apply, h2, h6]

/-- From memories that agree on the arguments, the kernel and the reference both run, end with equal results, and leave
    the arguments as they were. -/
theorem algebraic : algebraic_KernelIdeal_ReferenceIdeal (hKernelIdeal := Cert.KernelIdeal.Gen.facts) (hReferenceIdeal := Cert.ReferenceIdeal.Gen.facts) := by
  intro m g m' g' _ hm
  refine ⟨fun c => shapeCast Cert.KernelIdeal.S16x1x4096 (Cert.KernelIdeal.Run.yArr m c) Cert.KernelIdeal.Facts₀.shapeCasts_S16x32x128_S16x1x4096,
    fun c => shapeCast Cert.KernelIdeal.S16x1x4x128 (Cert.KernelIdeal.Run.kCodes m c) Cert.KernelIdeal.Facts₀.shapeCasts_S64x128_S16x1x4x128,
    fun c => m ((c.tc : Thread Cert.KernelIdeal.nD Cert.KernelIdeal.τ).loc Cert.KernelIdeal.main_arg4),
    fun c => shapeCast Cert.KernelIdeal.S16x1x4x128 (Cert.KernelIdeal.Run.vCodes m c) Cert.KernelIdeal.Facts₀.shapeCasts_S64x128_S16x1x4x128,
    fun c => m ((c.tc : Thread Cert.KernelIdeal.nD Cert.KernelIdeal.τ).loc Cert.KernelIdeal.main_arg6),
    θ_run_mono (θ_run_and (Cert.KernelIdeal.Run.run m g) (Cert.KernelIdeal.Run.unchanged m g)) ?_,
    θ_run_mono (θ_run_and (Cert.ReferenceIdeal.Val.run m' g') (Cert.ReferenceIdeal.Gen.unchanged m' g')) ?_⟩
  · rintro r ⟨h, u⟩ c
    obtain ⟨r0, r1, r2⟩ := h c
    obtain ⟨u0, u1, u2, u3, u4, u5, u6⟩ := u c
    exact ⟨r0, r1, u4, r2, u6, u0, u1, u2, u3, u4, u5, u6⟩
  · rintro r ⟨h, u⟩ c
    obtain ⟨r0, r1, r2⟩ := h c
    obtain ⟨u0, u1, u2, u3, u4, u5, u6⟩ := u c
    obtain ⟨h0, h1, h2, h3, h4, h5, h6⟩ := hm c
    exact ⟨r0.trans (attention_eq m m' c h0 h1 h2 h3 h4 h5 h6), r1.trans (keys_eq m m' c h1 h4), u4.trans h4, r2.trans (values_eq m m' c h2 h6), u6.trans h6,
      u0, u1, u2, u3, u4, u5, u6⟩

end Cert.Attn

end
-- ==== Proof.lean ====
module

public import proofs.«01_k».proof.Defs
public import proofs.«01_k».proof.Proof.Kernel.Sound
public import proofs.«01_k».proof.Proof.KernelIdeal.Sound
public import proofs.«01_k».proof.Proof.Gen.ReferenceIdeal.Frame
public import proofs.«01_k».proof.Proof.Value.Agree
public import Idealize.ShloMosaic.Adequacy
public import Idealize.ShloMosaic.Init

@[expose] public section

noncomputable section

namespace Cert.Proof

open Idealize.ShloMosaic Idealize.SL.Sem Cert.Kernel

/-- The claims of the statement. -/
theorem claim : Cert.Claim :=
  ⟨Cert.Kernel.Gen.facts, Cert.KernelIdeal.Gen.facts, Cert.ReferenceIdeal.Gen.facts,
    fun m ρ _ => Cert.Kernel.Run.frame m ρ, fun m ρ _ => Cert.KernelIdeal.Run.frame m ρ,
    fun m ρ _ => Cert.ReferenceIdeal.Gen.frame m ρ, trivial, Cert.Attn.algebraic⟩

end Cert.Proof

end
